-- ==== Defs.lean ====
def Pre_Kernel [hPre_swaps_Kernel : Cert.Pre_swaps_Kernel.Facts] (m : (ℓ : Loc Cert.Kernel.nD Cert.Kernel.τ Cert.Kernel.sig) → Buf (Elt Bits) ℓ) : Prop :=
  ∀ c : Dev Cert.Kernel.nD,
    (Cert.Pre_swaps_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_stays_Kernel [hPre_stays_Kernel : Cert.Pre_stays_Kernel.Facts] (m : (ℓ : Loc Cert.Kernel.nD Cert.Kernel.τ Cert.Kernel.sig) → Buf (Elt Bits) ℓ) : Prop :=
  ∀ c : Dev Cert.Kernel.nD,
    (Cert.Pre_stays_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_swaps_Kernel : Cert.Pre_swaps_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_swaps_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_stays_Kernel [hPre_stays_Kernel : Cert.Pre_stays_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_stays_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_swaps_ReferenceIdeal [hPre_swaps_ReferenceIdeal : Cert.Pre_swaps_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_swaps_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_stays_ReferenceIdeal [hPre_stays_ReferenceIdeal : Cert.Pre_stays_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_stays_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_swaps_Kernel : Cert.Pre_swaps_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_stays_Kernel [hKernel : Cert.Kernel.Facts] [hPre_stays_Kernel : Cert.Pre_stays_Kernel.Facts] : Prop :=
  ∀ (m : (ℓ : Loc Cert.Kernel.nD Cert.Kernel.τ Cert.Kernel.sig) → Buf (Elt Bits) ℓ) (g : Dev Cert.Kernel.nD → PrngReg), Pre_Kernel_stays_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_swaps_Kernel : Cert.Pre_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_stays_Kernel [hKernelIdeal : Cert.KernelIdeal.Facts] [hPre_stays_Kernel : Cert.Pre_stays_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_stays_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_swaps_ReferenceIdeal [hReferenceIdeal : Cert.ReferenceIdeal.Facts] [hPre_swaps_ReferenceIdeal : Cert.Pre_swaps_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_swaps_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_stays_ReferenceIdeal [hReferenceIdeal : Cert.ReferenceIdeal.Facts] [hPre_stays_ReferenceIdeal : Cert.Pre_stays_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_stays_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_swaps_Kernel : Cert.Pre_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![2, 256, 256]⟩ (Layout.meshBlock [2, 2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![2, 256, 256]⟩ (Layout.meshBlock [2, 2, 2] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_stays_Kernel [hKernelIdeal : Cert.KernelIdeal.Facts] [hReferenceIdeal : Cert.ReferenceIdeal.Facts] [hPre_stays_Kernel : Cert.Pre_stays_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_stays_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![2, 256, 256]⟩ (Layout.meshBlock [2, 2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![2, 256, 256]⟩ (Layout.meshBlock [2, 2, 2] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_swaps_Kernel : Cert.Pre_swaps_Kernel.Facts) (hPre_stays_Kernel : Cert.Pre_stays_Kernel.Facts) (hPre_swaps_ReferenceIdeal : Cert.Pre_swaps_ReferenceIdeal.Facts) (hPre_stays_ReferenceIdeal : Cert.Pre_stays_ReferenceIdeal.Facts),
    quiescent_Kernel (hKernel := hKernel) (hPre_swaps_Kernel := hPre_swaps_Kernel)
    ∧ quiescent_Kernel_pre_stays_Kernel (hKernel := hKernel) (hPre_stays_Kernel := hPre_stays_Kernel)
    ∧ quiescent_KernelIdeal (hKernelIdeal := hKernelIdeal) (hPre_swaps_Kernel := hPre_swaps_Kernel)
    ∧ quiescent_KernelIdeal_pre_stays_Kernel (hKernelIdeal := hKernelIdeal) (hPre_stays_Kernel := hPre_stays_Kernel)
    ∧ quiescent_ReferenceIdeal (hReferenceIdeal := hReferenceIdeal)
    ∧ quiescent_ReferenceIdeal_pre_swaps_ReferenceIdeal (hReferenceIdeal := hReferenceIdeal) (hPre_swaps_ReferenceIdeal := hPre_swaps_ReferenceIdeal)
    ∧ quiescent_ReferenceIdeal_pre_stays_ReferenceIdeal (hReferenceIdeal := hReferenceIdeal) (hPre_stays_ReferenceIdeal := hPre_stays_ReferenceIdeal)
    ∧ preserves_Kernel_KernelIdeal
    ∧ algebraic_KernelIdeal_ReferenceIdeal (hKernelIdeal := hKernelIdeal) (hReferenceIdeal := hReferenceIdeal) (hPre_swaps_Kernel := hPre_swaps_Kernel)
    ∧ algebraic_KernelIdeal_ReferenceIdeal_pre_stays_Kernel (hKernelIdeal := hKernelIdeal) (hReferenceIdeal := hReferenceIdeal) (hPre_stays_Kernel := hPre_stays_Kernel)
-- ==== Pre_stays_Kernel.lean ====
abbrev S1x256x256 : Shape := ⟨3, ![1, 256, 256]⟩
abbrev S2 : Shape := ⟨1, ![2]⟩

class Facts : Prop where

variable [Facts]

noncomputable abbrev lit0 : Fin 2 → BitVec 32 := fun
  | 0 => 0#32 | 1 => 1#32
  | _ => 0#32

def fn {F : FTy → Type} [FloatOps F] (main_arg0 : FVec F S1x256x256 .bf16) (main_arg1 : IVec S2 32) : IVec S2 1 :=
  let main_c : IVec S2 32 := fun i => lit0 (S2.rowMajor i)
  let main_v0 : IVec S2 1 := cmpi .eq main_arg1 main_c
  main_v0
-- ==== Pre_stays_ReferenceIdeal.lean ====
abbrev S2x256x256 : Shape := ⟨3, ![2, 256, 256]⟩
abbrev S2 : Shape := ⟨1, ![2]⟩

class Facts : Prop where

variable [Facts]

noncomputable abbrev lit0 : Fin 2 → BitVec 32 := fun
  | 0 => 0#32 | 1 => 1#32
  | _ => 0#32

def fn {F : FTy → Type} [FloatOps F] (main_arg0 : FVec F S2x256x256 .bf16) (main_arg1 : IVec S2 32) : IVec S2 1 :=
  let main_c : IVec S2 32 := fun i => lit0 (S2.rowMajor i)
  let main_v0 : IVec S2 1 := cmpi .eq main_arg1 main_c
  main_v0
-- ==== Pre_swaps_Kernel.lean ====
abbrev S1x256x256 : Shape := ⟨3, ![1, 256, 256]⟩
abbrev S2 : Shape := ⟨1, ![2]⟩

class Facts : Prop where

variable [Facts]

noncomputable abbrev lit0 : Fin 2 → BitVec 32 := fun
  | 0 => 1#32 | 1 => 0#32
  | _ => 0#32

def fn {F : FTy → Type} [FloatOps F] (main_arg0 : FVec F S1x256x256 .bf16) (main_arg1 : IVec S2 32) : IVec S2 1 :=
  let main_c : IVec S2 32 := fun i => lit0 (S2.rowMajor i)
  let main_v0 : IVec S2 1 := cmpi .eq main_arg1 main_c
  main_v0
-- ==== Pre_swaps_ReferenceIdeal.lean ====
abbrev S2x256x256 : Shape := ⟨3, ![2, 256, 256]⟩
abbrev S2 : Shape := ⟨1, ![2]⟩

class Facts : Prop where

variable [Facts]

noncomputable abbrev lit0 : Fin 2 → BitVec 32 := fun
  | 0 => 1#32 | 1 => 0#32
  | _ => 0#32

def fn {F : FTy → Type} [FloatOps F] (main_arg0 : FVec F S2x256x256 .bf16) (main_arg1 : IVec S2 32) : IVec S2 1 :=
  let main_c : IVec S2 32 := fun i => lit0 (S2.rowMajor i)
  let main_v0 : IVec S2 1 := cmpi .eq main_arg1 main_c
  main_v0
-- ==== Kernel.lean ====
abbrev S1x256x256 : Shape := ⟨3, ![1, 256, 256]⟩
abbrev S2 : Shape := ⟨1, ![2]⟩
abbrev S_ : Shape := ⟨0, ![]⟩
abbrev S1 : Shape := ⟨1, ![1]⟩

abbrev nBuf : Space → Nat
  | .hbm => 3
  | .vmem => 3
  | .smem => 1
  | _ => 0

abbrev bufTy : (tb : Table) → Fin (tcTables nBuf tb) → BufTy
  | .hbm, ⟨0, _⟩ => ⟨S1x256x256, .bf16⟩
  | .hbm, ⟨1, _⟩ => ⟨S2, .i32⟩
  | .hbm, ⟨2, _⟩ => ⟨S1x256x256, .bf16⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .smem, ⟨0, _⟩ => ⟨S2, .i32⟩
  | _, _ => ⟨S1x256x256, .bf16⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 1 5 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_off1 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : Index := Scalar.indexCast v2
  ![v9.toNat]
def k0_dev1 (d0 : Dev nD) (v10 : BitVec 32) : Nat :=
  let c0_i32_6 : BitVec 32 := 0#32
  let c4_i32_5 : BitVec 32 := 4#32
  let v18 : BitVec 32 := Scalar.muli v10 c4_i32_5
  let v19 : BitVec 32 := Scalar.addi c0_i32_6 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v20 : BitVec 32 := Scalar.muli v5 c2_i32_7
  let v21 : BitVec 32 := Scalar.addi v19 v20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_8 : BitVec 32 := 1#32
  let v22 : BitVec 32 := Scalar.muli v8 c1_i32_8
  let v23 : BitVec 32 := Scalar.addi v21 v22
  v23.toNat
def k0_cond2 (d0 : Dev nD) (v10 : BitVec 32) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 1 := Scalar.cmpi .ne v10 v2
  let v15 : BitVec 32 := Scalar.extui v14
  let c0_i32_3 : BitVec 32 := 0#32
  let v16 : BitVec 1 := Scalar.cmpi .ne v15 c0_i32_3
  v16

def k0_dev2 (d0 : Dev nD) (v10 : BitVec 32) : Nat :=
  let c0_i32_16 : BitVec 32 := 0#32
  let c4_i32_15 : BitVec 32 := 4#32
  let v29 : BitVec 32 := Scalar.muli v10 c4_i32_15
  let v30 : BitVec 32 := Scalar.addi c0_i32_16 v29
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_17 : BitVec 32 := 2#32
  let v31 : BitVec 32 := Scalar.muli v5 c2_i32_17
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v33 : BitVec 32 := Scalar.muli v8 c1_i32_18
  let v34 : BitVec 32 := Scalar.addi v32 v33
  v34.toNat

def k0_chk1 (d0 : Dev nD) (v10 : BitVec 32) : Prop :=
  (∀ (k0_h2 : k0_cond2 d0 v10 = 1#1), (k0_dev1 d0 v10) < nD) ∧
  (∀ (k0_h2 : k0_cond2 d0 v10 = 1#1), (k0_dev2 d0 v10) < nD)
theorem k0_dev1_lt : ∀ (d0 : Dev nD) (v10 : BitVec 32) (k0_hw1 : k0_chk1 d0 v10), ∀ (k0_h2 : k0_cond2 d0 v10 = 1#1), (k0_dev1 d0 v10) < nD := fun d0 v10 k0_hw1 k0_h2 => k0_hw1.1 k0_h2
theorem k0_dev2_lt : ∀ (d0 : Dev nD) (v10 : BitVec 32) (k0_hw1 : k0_chk1 d0 v10), ∀ (k0_h2 : k0_cond2 d0 v10 = 1#1), (k0_dev2 d0 v10) < nD := fun d0 v10 k0_hw1 k0_h2 => k0_hw1.2 k0_h2

abbrev stage0_0 : Fin 1 → Memref sig .tc .vmem S1x256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S2 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x256x256 : Shape := ⟨3, ![2, 256, 256]⟩
abbrev S2 : Shape := ⟨1, ![2]⟩
abbrev S_ : Shape := ⟨0, ![]⟩
abbrev S2x1 : Shape := ⟨2, ![2, 1]⟩

abbrev nBuf : Space → Nat
  | .hbm => 16
  | .vmem => 0
  | .smem => 0
  | _ => 0

abbrev bufTy : (tb : Table) → Fin (tcTables nBuf tb) → BufTy
  | .hbm, ⟨0, _⟩ => ⟨S2x256x256, .bf16⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x256x256, .bf16⟩
  | .hbm, ⟨14, _⟩ => ⟨S2x256x256, .f32⟩
  | .hbm, ⟨15, _⟩ => ⟨S2x256x256, .bf16⟩
  | _, _ => ⟨S2x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Proof.Protocol.lean ====
/-
  The protocol of the kernel, before any program logic.

  Eight devices, numbered `c = 4 * ix + 2 * iy + iz`; device `c` holds row `ix = c / 4` of `x` and the whole table
  `pi`. The body reads `pi[ix]`. Two tables are permutations of two rows:

  * `pi = [0, 1]` ("stays", `sw = false`): every device copies its own block into its own result. Nothing is
    signalled, nothing is sent, nobody waits.
  * `pi = [1, 0]` ("swaps", `sw = true`): device `c` exchanges blocks with `peer c = (c + 4) % 8`, the device in the
    other half with the same `iy`, `iz`. `peer` is its own inverse, so both ends run the same text.

  In the second case each device has three semaphores, each used for exactly one round:

  | cell      | who pays it                         | how much           | what the payment hands to the waiter           |
  |-----------|-------------------------------------|--------------------|------------------------------------------------|
  | `ready c` | `peer c`, by its signal             | 1                  | `peer c`'s result buffer, whatever it holds    |
  | `sent c`  | `c`'s own copy, once read out       | the block's credit | `c`'s send buffer, holding `c`'s block         |
  | `got c`   | `peer c`'s copy, once written       | the block's credit | `c`'s result buffer, holding `peer c`'s block  |

  Device `c`, in program order: signals `ready (peer c)`, giving its own result buffer away; loads its block and
  stores it in its send buffer; waits on `ready c`, so it may now write `peer c`'s result buffer; starts the copy of
  its send buffer into that buffer (paying `sent c` and `got (peer c)`); waits on `sent c` and has the send buffer
  back; waits on `got c` and has its result buffer back, with `peer c`'s block in it.

  Why nobody waits forever: at launch device `c` owes one unit to `ready (peer c)` and the block's credit to
  `got (peer c)`. It has paid the first before it waits on `ready c`, and then still owes the second; so `ready` cells
  are at level 1 and `got` cells at level 2. It owes nothing when it waits on `sent c` and `got c`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Rows

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources -/

/-- The ghost state of the three cells per device: rounds with one duty each. -/
abbrev URows : Type := URounds (GSem nD τ sig) Unit
/-- The pipeline's ghost state beside it. -/
abbrev UAll : Type := UR sig nD τ × URows

local notation "𝕄" => MT nD τ sig Unit (Elt F) ℕ UAll ℕ

abbrev EPipe : Emb (UR sig nD τ) (MT nD τ sig Unit (Elt F) ℕ UAll ℕ) := embL
abbrev ERows : Emb URows (MT nD τ sig Unit (Elt F) ℕ UAll ℕ) := embR

/-! ## Devices -/

set_option backward.proofsInPublic true in
/-- The device in the other half of the mesh with the same remaining coordinates. -/
def peer (c : Dev nD) : Dev nD := ⟨(c.val + 4) % 8, Nat.mod_lt _ (by decide)⟩

theorem peer_peer (c : Dev nD) : peer (peer c) = c := by revert c; decide

/-- `peer` as a permutation of the devices. -/
def peerEquiv : Dev nD ≃ Dev nD := ⟨peer, peer, peer_peer, peer_peer⟩

theorem eq_peer_iff {a b : Dev nD} : Iff (peer a = b) (a = peer b) :=
  ⟨fun h => by rw [← h, peer_peer], fun h => by rw [h, peer_peer]⟩

/-! ## The table's word -/

/-- The word `pi[ix]` device `c` reads, of the table that swaps the rows or the one that keeps them. -/
def want : Bool → Dev nD → BitVec 32
  | true, c => BitVec.ofNat 32 (1 - c.val / 4)
  | false, c => BitVec.ofNat 32 (c.val / 4)

/-- Read of either table, the word names a device of the mesh wherever the body uses it. -/
theorem want_chk (sw : Bool) (c : Dev nD) : k0_chk1 c (want sw c) := by
  revert sw c; decide

/-- Under the swapping table the "other row" branch is taken, -/
theorem cond_swaps (c : Dev nD) : k0_cond2 c (want true c) = 1#1 := by revert c; decide
/-- and under the keeping table it is not. -/
theorem cond_stays (c : Dev nD) : ¬ k0_cond2 c (want false c) = 1#1 := by revert c; decide

/-- The "own row" branch's condition, as the body spells it, fails under the swapping table -/
theorem own_swaps (c : Dev nD) :
    ¬ Scalar.cmpi .ne (Scalar.extui (Scalar.cmpi .eq (want true c) (Scalar.remsi (Scalar.divsi (Dev.word c) 4#32) 2#32)) : BitVec 32) 0#32 = 1#1 := by
  revert c; decide
/-- and holds under the keeping table. -/
theorem own_stays (c : Dev nD) :
    Scalar.cmpi .ne (Scalar.extui (Scalar.cmpi .eq (want false c) (Scalar.remsi (Scalar.divsi (Dev.word c) 4#32) 2#32)) : BitVec 32) 0#32 = 1#1 := by
  revert c; decide

/-- The signal goes to `peer c`, -/
theorem dev1_swaps (c : Dev nD) (h : k0_dev1 c (want true c) < nD) : (⟨k0_dev1 c (want true c), h⟩ : Dev nD) = peer c := by
  apply Fin.ext; revert c; decide
/-- and so does the copy. -/
theorem dev2_swaps (c : Dev nD) (h : k0_dev2 c (want true c) < nD) : (⟨k0_dev2 c (want true c), h⟩ : Dev nD) = peer c := by
  apply Fin.ext; revert c; decide

/-! ## Buffers and cells -/

abbrev xM : Memref sig .tc .vmem S1x256x256 .bf16 := Memref.whole cc0_stg0_0
abbrev piM : Memref sig .tc .smem S2 .i32 := Memref.whole cc0_stg1_0
abbrev oM : Memref sig .tc .vmem S1x256x256 .bf16 := Memref.whole cc0_stg2_0
abbrev bM : Memref sig .tc .vmem S1x256x256 .bf16 := Memref.whole cc0_scratch0

/-- What one block of `x` is: the contents of a buffer of its shape. -/
abbrev Block (F : FTy → Type) : Type := (cc0_stg0_0 : Ref sig .tc).ty.Contents (Elt F)

abbrev readyS : Sem sig := (SemArray.scalar (sig.barrier 0 rfl) : Sems sig S_).sem
abbrev sentS : DmaSem sig := (cc0_scratch1 : DmaSems sig S_).sem
abbrev gotS : DmaSem sig := (cc0_scratch2 : DmaSems sig S_).sem

abbrev ready (c : Dev nD) : GSem nD τ sig := ((c : Thread nD τ), .reg readyS)
abbrev sent (c : Dev nD) : GSem nD τ sig := ((c : Thread nD τ), .dma sentS)
abbrev got (c : Dev nD) : GSem nD τ sig := ((c : Thread nD τ), .dma gotS)

/-- The three semaphores a device uses, -/
abbrev semAt : Fin 3 → SemLoc sig := fun | 0 => .reg readyS | 1 => .dma sentS | 2 => .dma gotS
/-- and their cells over all devices. -/
abbrev cellAt (ck : Dev nD × Fin 3) : GSem nD τ sig := ((ck.1 : Thread nD τ), semAt ck.2)

theorem sent_ne_ready : (SemLoc.dma sentS : SemLoc sig) ≠ .reg readyS := fun h => by cases h
theorem got_ne_ready : (SemLoc.dma gotS : SemLoc sig) ≠ .reg readyS := fun h => by cases h
theorem sent_ne_got : (SemLoc.dma sentS : SemLoc sig) ≠ .dma gotS := by decide

/-- The credit of one block's copy. -/
abbrev credit : ℕ := (oM : Memref sig .tc .vmem S1x256x256 .bf16).view.dmaCredit
theorem credit_pos : 0 < credit := View.dmaCredit_pos _ (by decide)

/-- Device `c` owns its result buffer, holding `f`; -/
def outHas (c : Dev nD) (f : Block F) : sProp 𝕄 :=
  (oM : Memref sig .tc .vmem S1x256x256 .bf16).view.loc (c : Thread nD τ) ↦[(oM : Memref sig .tc .vmem S1x256x256 .bf16).view.set]{fullShare} f
/-- its send buffer, holding `f`. -/
def bufHas (c : Dev nD) (f : Block F) : sProp 𝕄 :=
  (bM : Memref sig .tc .vmem S1x256x256 .bf16).view.loc (c : Thread nD τ) ↦[(bM : Memref sig .tc .vmem S1x256x256 .bf16).view.set]{fullShare} f

omit [FloatOps F] in
instance outHas_storable (c : Dev nD) (f : Block F) : BI.Storable (upEmb : UEmb _ 𝕄) (outHas (F := F) c f) := by unfold outHas; infer_instance
omit [FloatOps F] in
instance bufHas_storable (c : Dev nD) (f : Block F) : BI.Storable (upEmb : UEmb _ 𝕄) (bufHas (F := F) c f) := by unfold bufHas; infer_instance

omit [FloatOps F] in
/-- Both buffers are owned whole. -/
theorem outHas_eq (c : Dev nD) (f : Block F) : outHas c f = (((c : Thread nD τ).loc cc0_stg2_0) ↦{fullShare} f : sProp 𝕄) := by
  unfold outHas; rw [View.set_whole]
omit [FloatOps F] in
theorem bufHas_eq (c : Dev nD) (f : Block F) : bufHas c f = (((c : Thread nD τ).loc cc0_scratch0) ↦{fullShare} f : sProp 𝕄) := by
  unfold bufHas; rw [View.set_whole]

omit [FloatOps F] in
/-- A copy of the whole send buffer into the whole result buffer leaves the send buffer's contents there. -/
theorem copy_lands (f g : Block F) :
    (oM : Memref sig .tc .vmem S1x256x256 .bf16).view.write (Elt F) f ((bM : Memref sig .tc .vmem S1x256x256 .bf16).view.read (Elt F) g) Finset.univ = g := by
  show (View.whole cc0_stg2_0).write (Elt F) f ((View.whole cc0_scratch0).read (Elt F) g) Finset.univ = g
  rw [View.read_whole]
  exact View.write_whole_univ _ _ _

/-! ## The schedule -/

/-- The cells that have a duty: the three of every device, in the swapping case. -/
abbrev Used (sw : Bool) (g : GSem nD τ sig) : Prop :=
  sw = true ∧ g.1.2 = .tc ∧ (g.2 = .reg readyS ∨ g.2 = .dma sentS ∨ g.2 = .dma gotS)

/-- What a payment of a cell hands over (the table in the header), the devices' blocks being `x`. -/
def handed (x : Dev nD → Block F) (g : GSem nD τ sig) : sProp 𝕄 :=
  if g.2 = .reg readyS then iprop(∃ f, outHas (peer g.1.1) f)
  else if g.2 = .dma gotS then outHas g.1.1 (x (peer g.1.1))
  else if g.2 = .dma sentS then bufHas g.1.1 (x g.1.1)
  else iprop(emp)

/-- One round, one duty per used cell. -/
def sched (sw : Bool) (x : Dev nD → Block F) : Rounds.Schedule (GSem nD τ sig) Unit 𝕄 where
  duties g r := if r = 0 ∧ Used sw g then {()} else ∅
  amount g _ _ := if g.2 = .reg readyS then 1 else credit
  payload g _ _ := handed x g
  amount_pos g _ _ _ := by
    by_cases h : g.2 = .reg readyS
    · rw [if_pos h]; exact Nat.one_pos
    · rw [if_neg h]; exact credit_pos

instance sched_storable (sw : Bool) (x : Dev nD → Block F) (g : GSem nD τ sig) (r : ℕ) (d : Unit) :
    BI.Storable (upEmb : UEmb _ 𝕄) ((sched (F := F) sw x).payload g r d) := by
  show BI.Storable upEmb (handed x g)
  unfold handed
  (repeat' split) <;> infer_instance

section Tables

variable (sw : Bool) (x : Dev nD → Block F) (c : Dev nD)

omit [FloatOps F] in
/-- No cell has a duty after round 0, -/
theorem duties_after (g : GSem nD τ sig) : ∀ r, 0 + 1 ≤ r → (sched (F := F) sw x).duties g r = ∅ :=
  fun r hr => by dsimp only [sched]; exact if_neg fun h => by omega
omit [FloatOps F] in
/-- and none at all in the keeping case. -/
theorem duties_stays (g : GSem nD τ sig) : ∀ r, 0 ≤ r → (sched (F := F) false x).duties g r = ∅ :=
  fun r _ => by dsimp only [sched]; exact if_neg fun h => Bool.false_ne_true h.2.1

omit [FloatOps F] in
theorem duty_of (g : GSem nD τ sig) (h : Used true g) : (sched (F := F) true x).duties g 0 = {()} := by
  dsimp only [sched]; exact if_pos ⟨rfl, h⟩
theorem used_ready : Used true (ready c) := ⟨rfl, rfl, .inl rfl⟩
theorem used_sent : Used true (sent c) := ⟨rfl, rfl, .inr (.inl rfl)⟩
theorem used_got : Used true (got c) := ⟨rfl, rfl, .inr (.inr rfl)⟩

omit [FloatOps F] in
theorem duty_mem (g : GSem nD τ sig) (h : Used true g) : () ∈ (sched (F := F) true x).duties g 0 := by
  rw [duty_of x g h]; exact Finset.mem_singleton_self _

omit [FloatOps F] in
theorem amount_ready : (sched (F := F) true x).amount (ready c) 0 () = 1 := by dsimp only [sched]; exact if_pos rfl
omit [FloatOps F] in
theorem amount_sent : (sched (F := F) true x).amount (sent c) 0 () = credit := by dsimp only [sched]; exact if_neg sent_ne_ready
omit [FloatOps F] in
theorem amount_got : (sched (F := F) true x).amount (got c) 0 () = credit := by dsimp only [sched]; exact if_neg got_ne_ready

omit [FloatOps F] in
theorem expect_of (g : GSem nD τ sig) (h : Used true g) : (sched (F := F) true x).expect g 0 = (sched (F := F) true x).amount g 0 () := by
  unfold Schedule.expect Schedule.amountOf; rw [duty_of x g h, Finset.sum_singleton]

omit [FloatOps F] in
theorem handed_ready : handed x (ready c) = iprop(∃ f, outHas (peer c) f) := by unfold handed; exact if_pos rfl
omit [FloatOps F] in
theorem handed_got : handed x (got c) = outHas c (x (peer c)) := by unfold handed; rw [if_neg got_ne_ready]; exact if_pos rfl
omit [FloatOps F] in
theorem handed_sent : handed x (sent c) = bufHas c (x c) := by
  unfold handed; rw [if_neg sent_ne_ready, if_neg sent_ne_got]; exact if_pos rfl

omit [FloatOps F] in
/-- A wait for the whole round hands over that one payment. -/
theorem whole_round (g : GSem nD τ sig) (h : Used true g) :
    bigSep ((sched (F := F) true x).duties g 0 \ ∅) (fun d => (sched (F := F) true x).payload g 0 d) = handed x g := by
  rw [Finset.sdiff_empty, duty_of x g h, bigSep_singleton]; rfl

end Tables

/-! ## What a device owes, and the order of the cells -/

/-- What device `c` owes while it waits on `ready c`: the copy's credit at its peer. -/
def owesCopy (c : Dev nD) : CellTallies nD τ sig Unit := tallyAt (got (peer c)) () credit
/-- What it owes at launch: nothing in the keeping case; in the swapping case the signal to its peer too. -/
def owes₀ : Bool → Dev nD → CellTallies nD τ sig Unit
  | true, c => owesCopy c + tallyAt (ready (peer c)) () 1
  | false, _ => 0

/-- Only TensorCore cells carry levels: `ready` at 1, `got` at 2, all others at 0. -/
def levels (g : GSem nD τ sig) : Finset Unit := if g.1.2 = .tc then {()} else ∅
def level (g : GSem nD τ sig) (_ : Unit) : ℕ := if g.2 = .reg readyS then 1 else if g.2 = .dma gotS then 2 else 0

theorem levels_of_ne (g : GSem nD τ sig) (h : g.1.2 ≠ .tc) : levels g = ∅ := if_neg h
theorem mem_levels (c : Dev nD) (s : SemLoc sig) (u : Unit) : u ∈ levels ((c : Thread nD τ), s) := by
  unfold levels; rw [if_pos rfl]; exact Finset.mem_singleton_self _

theorem level_ready (c : Dev nD) (u : Unit) : level (ready c) u = 1 := if_pos rfl
theorem level_got (c : Dev nD) (u : Unit) : level (got c) u = 2 := by unfold level; rw [if_neg got_ne_ready]; exact if_pos rfl
theorem level_other (c : Dev nD) (q : DmaSem sig) (hq : SemLoc.dma q ≠ .dma gotS) (u : Unit) : level ((c : Thread nD τ), .dma q) u = 0 := by
  have h : (SemLoc.dma q : SemLoc sig) ≠ .reg readyS := fun h => by injection h
  unfold level; rw [if_neg h]; exact if_neg hq

theorem owesCopy_cell {c : Dev nD} {g : GSem nD τ sig} {u : Unit} (h : 0 < owesCopy c g u) : g = got (peer c) := by
  unfold owesCopy at h; rw [tallyAt_apply] at h
  by_contra hn
  rw [if_neg fun e => hn e.1] at h
  exact Nat.lt_irrefl 0 h
theorem owes₀_cell {sw : Bool} {c : Dev nD} {g : GSem nD τ sig} {u : Unit} (h : 0 < owes₀ sw c g u) : g = got (peer c) ∨ g = ready (peer c) := by
  cases sw with
  | false => exact absurd h (Nat.lt_irrefl 0)
  | true =>
    change 0 < (owesCopy c + tallyAt (ready (peer c)) () 1) g u at h
    rw [Pi.add_apply, Finsupp.add_apply] at h
    by_cases h1 : 0 < owesCopy c g u
    · exact .inl (owesCopy_cell h1)
    · right
      by_contra hn
      rw [tallyAt_apply, if_neg fun e => hn e.1] at h
      omega

omit [FloatOps F] in
/-- The pipeline's own waits come before everything a device owes at launch. -/
theorem wait_staging (sw : Bool) (c : Dev nD) (q : DmaSem sig) (hq : SemLoc.dma q ≠ .dma gotS) (O : CellTallies nD τ sig Unit) (hO : O = owes₀ sw c ∨ O = 0) :
    (levAts levels level : sProp 𝕄) ⊢ MayWait (c : Thread nD τ) (.dma q) () O := by
  rcases hO with rfl | rfl
  · refine MayOwe.of_cut (L := levels) (lev := level) 0 (fun p hp => by rw [Finset.mem_singleton.mp hp]; exact mem_levels c _ _)
      (fun g u hg => by rcases owes₀_cell hg with rfl | rfl <;> exact mem_levels _ _ _)
      (fun p hp => by rw [Finset.mem_singleton.mp hp]; exact le_of_eq (level_other c q hq ()))
      (fun g u hg => by
        rcases owes₀_cell hg with rfl | rfl
        · rw [level_got]; decide
        · rw [level_ready]; decide)
  · rw [MayWait_zero]; iintro -; iempintro

omit [FloatOps F] in
/-- The wait on `ready c` comes before the copy a device still owes. -/
theorem wait_ready (c : Dev nD) : (levAts levels level : sProp 𝕄) ⊢ MayWait (c : Thread nD τ) (.reg readyS) () (owesCopy c) :=
  MayOwe.of_cut (L := levels) (lev := level) 1 (fun p hp => by rw [Finset.mem_singleton.mp hp]; exact mem_levels c _ _)
    (fun g u hg => by rw [owesCopy_cell hg]; exact mem_levels _ _ _)
    (fun p hp => by rw [Finset.mem_singleton.mp hp]; exact le_of_eq (level_ready c _))
    (fun g u hg => by rw [owesCopy_cell hg, level_got]; decide)

end Cert.Rows

end
-- ==== Proof.Body.lean ====
/-
  The kernel's body on one device, symbolically: from its blocks of `x` and `pi` staged, its result and send buffers at
  whatever contents, and its part of the protocol (`Protocol.lean`), it runs to its end and leaves in the result buffer
  its own block (keeping table) or its peer's (swapping table). Two runs, one per table; the device is a variable in both.
-/
module

public import proofs.«01_k».proof.Proof.Protocol
public import Idealize.ShloMosaic.Lib.Pipeline.Value

@[expose] public section

noncomputable section

namespace Cert.Rows

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UAll ℕ

variable (m : (ℓ : Loc nD τ sig) → Buf (Elt F) ℓ)

/-! ## The memory at launch -/

/-- Device `c`'s block of `x`: its row. -/
def xOf (c : Dev nD) : Block F := m ((c : Thread nD τ).loc main_arg0)
/-- Device `c`'s table: all of `pi`. -/
def piOf (c : Dev nD) : (cc0_stg1_0 : Ref sig .tc).ty.Contents (Elt F) := m ((c : Thread nD τ).loc main_arg1)

/-- The index of the one word device `c` reads: that of its own row. -/
def own (c : Dev nD) : S2.Idx := fun a => ⟨c.val / 4, by
  have h : c.val < 8 := c.isLt
  have e : S2.size a = 2 := by fin_cases a; rfl
  omega⟩

/-- What the run needs of the launch memory: on every device the word read is that of the swapping, or of the keeping, table. -/
def TableIs (sw : Bool) : Prop := ∀ c : Dev nD, piOf m c (own c) = want sw c

/-- What device `c`'s result ends as. -/
def resultOf (sw : Bool) (c : Dev nD) : Block F := if sw then xOf m (peer c) else xOf m c

/-- The rectangle of the body's one read of the table. -/
abbrev wordR (c : Dev nD) : Rect S2 := Rect.unit (s := S2) (k0_off1 c) S1.size (k0_off1_inb c)

omit [FloatOps F] in
/-- That read gives the word of the device's own row. -/
theorem word_read (c : Dev nD) :
    ((Memref.whole cc0_stg1_0).access (wordR c) : View sig .tc _ _ _).read (Elt F) (piOf m c) (Shape.Idx.first (s := S1) (numel1_S1.symm ▸ Nat.one_pos)) = piOf m c (own c) := by
  show m ((c : Thread nD τ).loc main_arg1) _ = m ((c : Thread nD τ).loc main_arg1) _
  refine congrArg _ (funext fun a => Fin.ext ?_)
  fin_cases a
  show k0_off1 c 0 + 0 = c.val / 4
  rw [k0_off1_eq]; rfl

/-! ## Whole-buffer accesses -/

abbrev allR : Rect S1x256x256 := Rect.unit (s := S1x256x256) ![0, 0, 0] S1x256x256.size inb_S1x256x256_S1x256x256_0_0_0

omit [FloatOps F] in
theorem zeros : (![0, 0, 0] : Fin 3 → Nat) = fun _ => 0 := funext fun a => by fin_cases a <;> rfl
omit [FloatOps F] in
/-- Loading the block loads all of it; -/
theorem load_x (f : Block F) : (xM : Memref sig .tc .vmem S1x256x256 .bf16).view.readAt (Elt F) allR.toLoadRect f = f :=
  Memref.readAt_unit_zero (Elt F) cc0_stg0_0 zeros _ f
omit [FloatOps F] in
/-- storing over the result buffer, -/
theorem store_o (f w : Block F) : ((oM : Memref sig .tc .vmem S1x256x256 .bf16).access allR : View sig .tc _ _ _).write (Elt F) f w Finset.univ = w :=
  Memref.write_access_unit_zero_univ (Elt F) cc0_stg2_0 zeros _ f w
omit [FloatOps F] in
/-- or over the send buffer, replaces all of it. -/
theorem store_b (f w : Block F) : ((bM : Memref sig .tc .vmem S1x256x256 .bf16).access allR : View sig .tc _ _ _).write (Elt F) f w Finset.univ = w :=
  Memref.write_access_unit_zero_univ (Elt F) cc0_scratch0 zeros _ f w

/-- What the body stores is what it loaded: its shape casts are between equal shapes. -/
theorem pay1_eq (v : Vec F S1x256x256 .bf16) : k0_pay1 v = v := by
  unfold k0_pay1; rw [shapeCast_self]
theorem pay2_eq (v : Vec F S1x256x256 .bf16) : k0_pay2 v = v := by
  unfold k0_pay2; simp only [shapeCast_self]

/-! ## A device's part of the protocol -/

/-- Every cell of every device, -/
def allCells : Finset (GSem nD τ sig) := Finset.univ.image cellAt
theorem cell_mem (c : Dev nD) (k : Fin 3) : cellAt (c, k) ∈ allCells := Finset.mem_image_of_mem _ (Finset.mem_univ _)

/-- its invariant under the names `κ`, and that its round 0 is open. Every device has these records. -/
def records (sw : Bool) (κ : GSem nD τ sig → ℕ) : sProp 𝕄 :=
  iprop(bigSep allCells (fun g => cellInv ERows (sched sw (xOf m)) (κ g) g) ∗ bigSep allCells (fun g => reached ERows g 0))

instance records_persistent (sw : Bool) (κ : GSem nD τ sig → ℕ) : BI.Persistent (records m sw κ) := by unfold records; infer_instance

omit [FloatOps F] in
theorem records_inv (sw : Bool) (κ : GSem nD τ sig → ℕ) (c : Dev nD) (k : Fin 3) :
    records m sw κ ⊢ cellInv ERows (sched sw (xOf m)) (κ (cellAt (c, k))) (cellAt (c, k)) := by
  have h : bigSep allCells (fun g => cellInv ERows (sched sw (xOf m)) (κ g) g) ⊢ cellInv ERows (sched sw (xOf m)) (κ (cellAt (c, k))) (cellAt (c, k)) :=
    bigSep_elim (cell_mem c k)
  unfold records
  iintro ⟨H, -⟩
  iapply h $$ H
omit [FloatOps F] in
theorem records_reached (sw : Bool) (κ : GSem nD τ sig → ℕ) (c : Dev nD) (k : Fin 3) :
    records m sw κ ⊢ reached ERows (cellAt (c, k)) 0 := by
  have h : bigSep allCells (fun g => (reached ERows g 0 : sProp 𝕄)) ⊢ reached ERows (cellAt (c, k)) 0 := bigSep_elim (cell_mem c k)
  unfold records
  iintro ⟨-, H⟩
  iapply h $$ H

/-- What device `c` alone has: its positions on its three cells, and the right to make its three payments. -/
def mine (c : Dev nD) : sProp 𝕄 :=
  iprop((atPos ERows (ready c) 0 ∅ 0 ∗ atPos ERows (sent c) 0 ∅ 0 ∗ atPos ERows (got c) 0 ∅ 0)
    ∗ dutyTok ERows (ready (peer c)) 0 () ∗ dutyTok ERows (sent c) 0 () ∗ dutyTok ERows (got (peer c)) 0 ())

/-- What it may wait for on the credit of others: its peer's signal and its peer's copy, in the swapping case. -/
def credits (c : Dev nD) : Bool → sProp 𝕄
  | true => iprop(cred (tallyAt (ready c) () 1) ∗ cred (tallyAt (got c) () credit))
  | false => iprop(emp)

/-- Device `c`'s part at the start of the body, -/
def part (sw : Bool) (c : Dev nD) : sProp 𝕄 :=
  iprop((∃ κ, records m sw κ ∗ mine c) ∗ credits c sw ∗ levAts levels level)
/-- with its send buffer. -/
def before (sw : Bool) (c : Dev nD) : sProp 𝕄 := iprop(part m sw c ∗ ∃ f, bufHas c f)
/-- At the end: the send buffer at some contents and the three semaphores at zero. -/
def afterwards (c : Dev nD) : sProp 𝕄 :=
  iprop((∃ f, bufHas (F := F) c f) ∗ semVal (sent c) 0 ∗ semVal (got c) 0 ∗ semVal (ready c) 0)

/-- The pipeline's proof data: the arrays as launched, the staging buffers after the one point, what is held and owed
    before and after it. -/
def dats (sw : Bool) (_ : Fin 1) (c : Dev nD) : Dat τ (Elt F) Unit ℕ UAll ℕ cfg0 c where
  A w := m ((cfg0.win w).arr.view.loc (c : Thread nD τ))
  after w _ := match w with
    | ⟨0, _⟩ => xOf m c
    | ⟨1, _⟩ => piOf m c
    | ⟨2, _⟩ => resultOf m sw c
  Φ t := match t with
    | ⟨0, _⟩ => before m sw c
    | ⟨_ + 1, _⟩ => afterwards c
  q _ := fullShare
  owed t := match t with
    | ⟨0, _⟩ => owes₀ sw c
    | ⟨_ + 1, _⟩ => 0

abbrev 𝒱₀ : Variants := Variants.none

/-- A buffer of device `c` owned whole, its contents equal to `X`. -/
abbrev holds (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
theorem owns_holds (c : Dev nD) (b : Ref sig .tc) (X : b.ty.Contents (Elt F)) :
    (owns (Ix := Unit) (Name := ℕ) (U := UAll) (Lvl := ℕ) (c : Thread nD τ) (Memref.whole b) fullShare X : sProp 𝕄) = holds c b X := by
  unfold owns; simp only [Memref.view_whole, View.read_whole, View.set_whole]

/-! ## What is staged -/

omit [FloatOps F] in
theorem block_x (c : Dev nD) : (win0_0.blk (0 : Fin 1)).view.read (Elt F) (m ((c : Thread nD τ).loc main_arg0)) = xOf m c :=
  Memref.read_access_unit_zero (Elt F) main_arg0
    (show (fun a => (win0_0.index (0 : Fin 1)) a * main_arg0.ty.shape.size a) = fun _ => 0 from funext fun a => by fin_cases a <;> decide)
    (fun a => by fin_cases a <;> decide) _
omit [FloatOps F] in
theorem block_pi (c : Dev nD) : (win0_1.blk (0 : Fin 1)).view.read (Elt F) (m ((c : Thread nD τ).loc main_arg1)) = piOf m c :=
  Memref.read_access_unit_zero (Elt F) main_arg1
    (show (fun a => (win0_1.index (0 : Fin 1)) a * main_arg1.ty.shape.size a) = fun _ => 0 from funext fun a => by fin_cases a <;> decide)
    (fun a => by fin_cases a <;> decide) _

/-- Before the body the first staging buffer holds the device's block, the second its table. -/
theorem staged_x (sw : Bool) (c : Dev nD) (d) : (dats m sw 0 c).before (0 : Fin 3) t0_0 d = xOf m c := by
  unfold Dat.before; rw [if_pos (fetch0_0 t0_0)]; exact block_x m c
theorem staged_pi (sw : Bool) (c : Dev nD) (d) : (dats m sw 0 c).before (1 : Fin 3) t0_0 d = piOf m c := by
  unfold Dat.before; rw [if_pos (fetch0_1 t0_0)]; exact block_pi m c

/-! ## The copy -/

/-- The copy of `c`'s send buffer into its peer's result buffer, the device it names equal to `peer c`: it takes both
    buffers and the two rights to pay, and leaves the credit for the wait on `sent c`, nothing owed any more. -/
theorem wp_copy_over (x : Dev nD → Block F) (κ : GSem nD τ sig → ℕ) (c n : Dev nD) (hn : n = peer c)
    {hsc : (oM : Memref sig (Dev.tc n : Thread nD τ).2.kind .vmem S1x256x256 .bf16).view.ref.isScScratch = false}
    {hsrc : (bM : Memref sig .tc .vmem S1x256x256 .bf16).view.WordExact} {hdst : (oM : Memref sig .tc .vmem S1x256x256 .bf16).view.WordExact}
    {hsem : DmaTarget.Typed .vmem (.dma gotS) (.remote (Dev.tc n : Thread nD τ) (oM : Memref sig .tc .vmem S1x256x256 .bf16) (.dma sentS) hsc)}
    {α : Type} {Q : α → sProp 𝕄} {k : PUnit → Prog (TpuEff nD τ sig (Elt F) Λ₀ .tc) α} (f : Block F) (W : Waits sig Unit) :
    iprop(cellInv ERows (sched true x) (κ (sent c)) (sent c) ∗ cellInv ERows (sched true x) (κ (got (peer c))) (got (peer c))
        ∗ bufHas c (x c) ∗ outHas (peer c) f ∗ owes (c : Thread nD τ) (owesCopy c) W
        ∗ dutyTok ERows (sent c) 0 () ∗ reached ERows (sent c) 0
        ∗ dutyTok ERows (got (peer c)) 0 () ∗ reached ERows (got (peer c)) 0)
      ⊢ iprop(((cred (tallyAt (sent c) () credit) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma bM (.remote (Dev.tc n : Thread nD τ) oM (.dma sentS) hsc) (.dma gotS) hsrc hdst hsem) k) Q) := by
  subst hn
  have h₁ : bufHas c (x c) ⊢ (sched true x).payload (sent c) 0 () := Entails.of_eq (handed_sent x c).symm
  have h₂ : outHas (peer c) (x c) ⊢ (sched true x).payload (got (peer c)) 0 () :=
    Entails.of_eq ((handed_got x (peer c)).trans (by rw [peer_peer])).symm
  unfold bufHas at h₁ ⊢
  unfold outHas at h₂ ⊢
  have hO : owesCopy c = 0 + tallyAt (got (peer c)) () credit := by rw [zero_add, owesCopy]
  have hN : (oM : Memref sig .tc .vmem S1x256x256 .bf16).view.amount (.dma gotS) = credit := rfl
  rw [← copy_lands f (x c)] at h₂
  have key := Rounds.wp_send_pointsTo (c' := (Dev.tc (peer c) : Thread nD τ)) (src := bM) (dst := oM) (Q := Q) (k := k) (hsc := hsc) (hsrc := hsrc) (hdst := hdst) (hsem := hsem) 𝒱₀ ERows (sched true x) (c : Thread nD τ) none (κ₁ := κ (sent c)) (κ₂ := κ (got (peer c)))
    (r₁ := 0) (r₂ := 0) (d₁ := ()) (d₂ := ()) (fd := f) (fs := x c) (q := fullShare) (O₀ := owesCopy c)
    (duty_mem x _ (used_sent c)) (duty_mem x _ (used_got (peer c)))
    () () credit hN (amount_sent x c) (amount_got x (peer c)) 0 hO (W := W) h₁ h₂ (Es := Set.univ) (Γ := PendingWaitsCtx.empty) (defs := defs₀)
  exact key

omit [FloatOps F] in
/-- What the signal hands over: the signaller's result buffer, at whatever contents. -/
theorem give_out (x : Dev nD → Block F) (c : Dev nD) (o : Block F) :
    (((c : Thread nD τ).loc cc0_stg2_0) ↦{fullShare} o : sProp 𝕄) ⊢ (sched true x).payload (((peer c : Dev nD) : Thread nD τ), SemLoc.reg readyS) 0 () := by
  have h : (∃ f, outHas c f : sProp 𝕄) ⊢ (sched true x).payload (((peer c : Dev nD) : Thread nD τ), SemLoc.reg readyS) 0 () :=
    Entails.of_eq ((handed_ready x (peer c)).trans (by rw [peer_peer])).symm
  iintro H
  iapply h
  iexists o; rw [outHas_eq]; iexact H

/-! ## The body's two runs -/

/-- The body on the buffers the pipeline and the launch give it. -/
abbrev bodyHere : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_scratch0) (Memref.isWhole_whole _) cc0_scratch1 cc0_scratch2

/-- What a run starts from, the pipeline's bookkeeping opened: the device's part, what it owes, its four buffers. -/
def ins (sw : Bool) (κ : GSem nD τ sig → ℕ) (c : Dev nD) (W : Waits sig Unit) (o b : Block F) : sProp 𝕄 :=
  iprop(records m sw κ ∗ mine c ∗ credits c sw ∗ levAts levels level
    ∗ owes (c : Thread nD τ) (owes₀ sw c) W
    ∗ (((c : Thread nD τ).loc cc0_stg0_0) ↦{fullShare} xOf m c) ∗ (((c : Thread nD τ).loc cc0_stg1_0) ↦{fullShare} piOf m c)
    ∗ (((c : Thread nD τ).loc cc0_stg2_0) ↦{fullShare} o) ∗ bufHas c b)

/-- What it ends with: the semaphores at zero, nothing owed, the inputs as they were, the result in place. -/
def outs (sw : Bool) (c : Dev nD) : sProp 𝕄 :=
  iprop(afterwards c ∗ (∃ W, owes (c : Thread nD τ) 0 W)
    ∗ (((c : Thread nD τ).loc cc0_stg0_0) ↦{fullShare} xOf m c) ∗ (((c : Thread nD τ).loc cc0_stg1_0) ↦{fullShare} piOf m c)
    ∗ (((c : Thread nD τ).loc cc0_stg2_0) ↦{fullShare} resultOf m sw c))

set_option maxHeartbeats 1600000 in
/-- The run under the keeping table: load, store, and the three unused semaphores are still at zero. -/
theorem run_stays (h : TableIs m false) (κ : GSem nD τ sig → ℕ) (c : Dev nD) (W : Waits sig Unit) (o b : Block F) (Q : PUnit → sProp 𝕄) :
    iprop(ins m false κ c W o b ∗ (outs m false c -∗ Q ⟨⟩))
      ⊢ wp frame (wpE (defs₀ (F := F)) 𝒱₀ c none) Set.univ (bodyHere (F := F)) Q := by
  unfold bodyHere
  simp only [cc0_body_eq_skeleton]; unfold cc0_body_skel
  simp only [smemLoad, smemLoadElt, Prog.lift, Prog.bind_op, Prog.bind_ret, Prog.pure_eq_ret, Prog.bind_assoc, wp_deviceId]
  unfold ins mine
  iintro ⟨⟨#HR, ⟨⟨Har, Has, Hag⟩, -⟩, -, -, HO, Hx, Hpi, Ho, Hb⟩, Hk⟩
  iapply (wp_load_rect 𝒱₀ (c : Thread nD τ) none Set.univ (m := piM) (r := wordR c) (Finset.subset_univ _)) $$ Hpi; iintro Hpi
  rw [word_read, h c]
  simp only [wp_assume_of _ _ _ _ (d := k0_chk1.dec _ _) (want_chk false c)]
  rw [if_pos (own_stays c), dif_neg (cond_stays c)]
  iapply (wp_load 𝒱₀ (c : Thread nD τ) none Set.univ (m := xM) (Finset.subset_univ _)) $$ Hx; iintro Hx
  rw [load_x, pay1_eq]
  iapply (wp_load 𝒱₀ (c : Thread nD τ) none Set.univ (m := oM) (Finset.subset_univ _)) $$ Ho; iintro Ho
  iapply (wp_store 𝒱₀ (c : Thread nD τ) none Set.univ (m := oM) (r := allR) (Mk := Finset.univ) (Finset.subset_univ _)) $$ Ho; iintro Ho
  rw [store_o]
  imod (Rounds.cell_close ERows (sched false (xOf m)) (Set.mem_univ (κ (sent c))) (fun h => h) (R := 0) (duties_stays (xOf m) (sent c))) $$ [Has] with Hzs
  · isplitr; · iapply (records_inv m false κ c 1); iexact HR
    iexact Has
  imod (Rounds.cell_close ERows (sched false (xOf m)) (Set.mem_univ (κ (got c))) (fun h => h) (R := 0) (duties_stays (xOf m) (got c))) $$ [Hag] with Hzg
  · isplitr; · iapply (records_inv m false κ c 2); iexact HR
    iexact Hag
  imod (Rounds.cell_close ERows (sched false (xOf m)) (Set.mem_univ (κ (ready c))) (fun h => h) (R := 0) (duties_stays (xOf m) (ready c))) $$ [Har] with Hzr
  · isplitr; · iapply (records_inv m false κ c 0); iexact HR
    iexact Har
  rw [wp_ret]; imodintro
  iapply Hk
  unfold outs afterwards resultOf
  isplitl [Hb Hzs Hzg Hzr]
  · isplitl [Hb]; · iexists b; iexact Hb
    isplitl [Hzs]; · iexact Hzs
    isplitl [Hzg] <;> iassumption
  isplitl [HO]; · iexists W; iexact HO
  isplitl [Hx]; · iexact Hx
  isplitl [Hpi]; · iexact Hpi
  iexact Ho

set_option maxHeartbeats 1600000 in
/-- The run under the swapping table: the protocol of `Protocol.lean`, step by step. -/
theorem run_swaps (h : TableIs m true) (κ : GSem nD τ sig → ℕ) (c : Dev nD) (W : Waits sig Unit) (o b : Block F) (Q : PUnit → sProp 𝕄) :
    iprop(ins m true κ c W o b ∗ (outs m true c -∗ Q ⟨⟩))
      ⊢ wp frame (wpE (defs₀ (F := F)) 𝒱₀ c none) Set.univ (bodyHere (F := F)) Q := by
  unfold bodyHere
  simp only [cc0_body_eq_skeleton]; unfold cc0_body_skel
  simp only [semSignalWord, semWaitWord, smemLoad, smemLoadElt, Prog.lift, Prog.bind_op, Prog.bind_ret, Prog.pure_eq_ret, Prog.bind_assoc, wp_deviceId]
  unfold ins mine credits
  iintro ⟨⟨#HR, ⟨⟨Har, Has, Hag⟩, Htr, Hts, Htg⟩, ⟨Hcr, Hcg⟩, #Hlev, HO, Hx, Hpi, Ho, Hb⟩, Hk⟩
  iapply (wp_load_rect 𝒱₀ (c : Thread nD τ) none Set.univ (m := piM) (r := wordR c) (Finset.subset_univ _)) $$ Hpi; iintro Hpi
  rw [word_read, h c]
  simp only [wp_assume_of _ _ _ _ (d := k0_chk1.dec _ _) (want_chk true c)]
  rw [if_neg (own_swaps c), dif_pos (cond_swaps c)]
  simp only [Prog.lift, Prog.bind_op, Prog.bind_ret, Prog.pure_eq_ret, Prog.bind_assoc, dev1_swaps c]
  unfold owes₀
  -- the signal gives the result buffer to the peer
  iapply (Rounds.wp_signal 𝒱₀ ERows (sched true (xOf m)) (c : Thread nD τ) none (dst := (peer c : Thread nD τ)) (κ := κ (ready (peer c)))
      (d := ()) (duty_mem (xOf m) _ (used_ready (peer c))) ((amount_ready (xOf m) (peer c)).trans (by decide)) () (owesCopy c) rfl)
    $$ [HO Htr Ho]
  · isplitr; · iapply (records_inv m true κ (peer c) 0); iexact HR
    isplitl [HO]; · iexact HO
    isplitl [Htr]; · iexact Htr
    isplitl [Ho]; · iapply (give_out (xOf m) c o); iexact Ho
    · iapply (records_reached m true κ (peer c) 0); iexact HR
  iintro HO
  -- the block goes into the send buffer
  iapply (wp_load 𝒱₀ (c : Thread nD τ) none Set.univ (m := xM) (Finset.subset_univ _)) $$ Hx; iintro Hx
  rw [load_x, pay2_eq]
  ihave Hb := (Entails.of_eq (bufHas_eq c b)) $$ Hb
  iapply (wp_load 𝒱₀ (c : Thread nD τ) none Set.univ (m := bM) (Finset.subset_univ _)) $$ Hb; iintro Hb
  iapply (wp_store 𝒱₀ (c : Thread nD τ) none Set.univ (m := bM) (r := allR) (Mk := Finset.univ) (Finset.subset_univ _)) $$ Hb; iintro Hb
  rw [store_b]
  -- the peer's signal brings the peer's result buffer
  iapply (Rounds.wp_wait_rest_token 𝒱₀ ERows (sched true (xOf m)) (c : Thread nD τ) none (κ := κ (ready c))
      (wpE_semWait_eq 𝒱₀ (c : Thread nD τ) none Set.univ) (Set.mem_univ _) () (O := owesCopy c) (W := W) (R := 0) (m := 0) (T := ∅)
      (by rw [expect_of _ _ (used_ready c), amount_ready]; decide)) $$ [Hcr HO Har]
  · isplitr; · iapply (records_inv m true κ c 0); iexact HR
    isplitl [Hcr]; · iexact Hcr
    isplitl [HO]; · iexact HO
    isplitr; · iapply (wait_ready c); iexact Hlev
    iexact Har
  iintro ⟨HO, Har, -, Hpay⟩
  ihave Hp := (Entails.of_eq ((whole_round (xOf m) (ready c) (used_ready c)).trans (handed_ready (xOf m) c))) $$ Hpay
  icases Hp with ⟨%f, Hout⟩
  -- the copy into it
  ihave Hb' := (Entails.of_eq (bufHas_eq c (xOf m c)).symm) $$ Hb
  iapply (wp_copy_over (xOf m) κ c _ (dev2_swaps c _) f (insert (SemLoc.reg readyS, ()) W)) $$ [Hb' Hout HO Hts Htg]
  · isplitr; · iapply (records_inv m true κ c 1); iexact HR
    isplitr; · iapply (records_inv m true κ (peer c) 2); iexact HR
    isplitl [Hb']; · iexact Hb'
    isplitl [Hout]; · iexact Hout
    isplitl [HO]; · iexact HO
    isplitl [Hts]; · iexact Hts
    isplitr; · iapply (records_reached m true κ c 1); iexact HR
    isplitl [Htg]; · iexact Htg
    iapply (records_reached m true κ (peer c) 2); iexact HR
  iintro ⟨Hcs, HO⟩
  -- the send buffer comes back
  iapply (Rounds.wp_wait_rest_token 𝒱₀ ERows (sched true (xOf m)) (c : Thread nD τ) none (κ := κ (sent c))
      (wpE_waitDma2_eq 𝒱₀ (c : Thread nD τ) none Set.univ) (Set.mem_univ _) () (O := 0) (W := insert (SemLoc.reg readyS, ()) W) (R := 0) (m := 0) (T := ∅)
      (by rw [Nat.zero_add, expect_of _ _ (used_sent c), amount_sent])) $$ [Hcs HO Has]
  · isplitr; · iapply (records_inv m true κ c 1); iexact HR
    isplitl [Hcs]; · iexact Hcs
    isplitl [HO]; · iexact HO
    isplitr; · rw [MayWait_zero]; iempintro
    iexact Has
  iintro ⟨HO, Has, -, Hpay⟩
  ihave Hb := (Entails.of_eq ((whole_round (xOf m) (sent c) (used_sent c)).trans (handed_sent (xOf m) c))) $$ Hpay
  -- the result buffer comes back, the peer's block in it
  iapply (Rounds.wp_wait_rest_token 𝒱₀ ERows (sched true (xOf m)) (c : Thread nD τ) none (κ := κ (got c))
      (wpE_waitDma2_eq 𝒱₀ (c : Thread nD τ) none Set.univ) (Set.mem_univ _) () (O := 0)
      (W := insert (SemLoc.dma sentS, ()) (insert (SemLoc.reg readyS, ()) W)) (R := 0) (m := 0) (T := ∅)
      (by rw [Nat.zero_add, expect_of _ _ (used_got c), amount_got])) $$ [Hcg HO Hag]
  · isplitr; · iapply (records_inv m true κ c 2); iexact HR
    isplitl [Hcg]; · iexact Hcg
    isplitl [HO]; · iexact HO
    isplitr; · rw [MayWait_zero]; iempintro
    iexact Hag
  iintro ⟨HO, Hag, -, Hpay⟩
  ihave Ho := (Entails.of_eq ((whole_round (xOf m) (got c) (used_got c)).trans ((handed_got (xOf m) c).trans (outHas_eq c _)))) $$ Hpay
  -- every round is over: the semaphores are at zero
  imod (Rounds.cell_close ERows (sched true (xOf m)) (Set.mem_univ (κ (sent c))) (fun h => h) (R := 0 + 1) (duties_after true (xOf m) (sent c))) $$ [Has] with Hzs
  · isplitr; · iapply (records_inv m true κ c 1); iexact HR
    iexact Has
  imod (Rounds.cell_close ERows (sched true (xOf m)) (Set.mem_univ (κ (got c))) (fun h => h) (R := 0 + 1) (duties_after true (xOf m) (got c))) $$ [Hag] with Hzg
  · isplitr; · iapply (records_inv m true κ c 2); iexact HR
    iexact Hag
  imod (Rounds.cell_close ERows (sched true (xOf m)) (Set.mem_univ (κ (ready c))) (fun h => h) (R := 0 + 1) (duties_after true (xOf m) (ready c))) $$ [Har] with Hzr
  · isplitr; · iapply (records_inv m true κ c 0); iexact HR
    iexact Har
  rw [wp_ret]; imodintro
  iapply Hk
  unfold outs afterwards resultOf
  isplitl [Hb Hzs Hzg Hzr]
  · isplitl [Hb]; · iexists (xOf m c); iexact Hb
    isplitl [Hzs]; · iexact Hzs
    isplitl [Hzg] <;> iassumption
  isplitl [HO]; · iexists _; iexact HO
  isplitl [Hx]; · iexact Hx
  isplitl [Hpi]; · iexact Hpi
  iexact Ho

/-- Both runs as one statement. -/
theorem run_body (sw : Bool) (h : TableIs m sw) (κ : GSem nD τ sig → ℕ) (c : Dev nD) (W : Waits sig Unit) (o b : Block F) (Q : PUnit → sProp 𝕄) :
    iprop(ins m sw κ c W o b ∗ (outs m sw c -∗ Q ⟨⟩))
      ⊢ wp frame (wpE (defs₀ (F := F)) 𝒱₀ c none) Set.univ (bodyHere (F := F)) Q := by
  cases sw
  · exact run_stays m h κ c W o b Q
  · exact run_swaps m h κ c W o b Q

/-! ## The pipeline's obligation -/

/-- The obligation's two sides, the windows listed one by one. -/
def oblPre (sw : Bool) (c : Dev nD) : sProp 𝕄 :=
  iprop(before m sw c ∗ (dats m sw 0 c).owesAt () t0_0.castSucc
    ∗ (∃ d, holds c cc0_stg0_0 ((dats m sw 0 c).before (0 : Fin 3) t0_0 d))
    ∗ (∃ d, holds c cc0_stg1_0 ((dats m sw 0 c).before (1 : Fin 3) t0_0 d))
    ∗ (∃ d, holds c cc0_stg2_0 ((dats m sw 0 c).before (2 : Fin 3) t0_0 d)))
def oblPost (sw : Bool) (c : Dev nD) : sProp 𝕄 :=
  iprop(afterwards c ∗ (dats m sw 0 c).owesAt () t0_0.succ
    ∗ holds c cc0_stg0_0 (xOf m c) ∗ holds c cc0_stg1_0 (piOf m c) ∗ holds c cc0_stg2_0 (resultOf m sw c))

theorem body_meets (sw : Bool) (h : TableIs m sw) (c : Dev nD) :
    oblPre m sw c ⊢ wp frame (wpE (defs₀ (F := F)) 𝒱₀ c none) Set.univ (bodyHere (F := F)) (fun _ => oblPost m sw c) := by
  unfold oblPre before part Dat.owesAt Pipeline.owesWithin
  rw [show (dats m sw 0 c).owed t0_0.castSucc = owes₀ sw c from rfl]
  iintro ⟨⟨⟨⟨%κ, HR, Hm⟩, Hc, Hlev⟩, ⟨%b, Hb⟩⟩, ⟨%W, %hW, HO⟩, ⟨%d0, %g0, %hg0, Hx⟩, ⟨%d1, %g1, %hg1, Hpi⟩, ⟨%d2, %o, %ho, Ho⟩⟩
  obtain rfl := hg0.trans (staged_x m sw c d0)
  obtain rfl := hg1.trans (staged_pi m sw c d1)
  iapply (run_body m sw h κ c W o b fun _ => oblPost m sw c)
  unfold ins
  isplitl
  · isplitl [HR]; · iexact HR
    isplitl [Hm]; · iexact Hm
    isplitl [Hc]; · iexact Hc
    isplitl [Hlev]; · iexact Hlev
    isplitl [HO]; · iexact HO
    isplitl [Hx]; · iexact Hx
    isplitl [Hpi]; · iexact Hpi
    isplitl [Ho]; · iexact Ho
    iexact Hb
  unfold outs oblPost Dat.owesAt Pipeline.owesWithin
  rw [show (dats m sw 0 c).owed t0_0.succ = 0 from rfl]
  iintro ⟨Ha, ⟨%W', HO⟩, Hx, Hpi, Ho⟩
  isplitl [Ha]; · iexact Ha
  isplitl [HO]
  · iexists W'
    isplitr; · ipureintro; exact fun _ _ => Or.inl trivial
    iexact HO
  isplitl [Hx]
  · iexists _; isplitr; · (ipureintro; rfl)
    iexact Hx
  isplitl [Hpi]
  · iexists _; isplitr; · (ipureintro; rfl)
    iexact Hpi
  iexists _; isplitr; · (ipureintro; rfl)
  iexact Ho

set_option maxRecDepth 4000 in
/-- The body meets its obligation at the pipeline's one point. -/
theorem body_obligation (sw : Bool) (h : TableIs m sw) (c : Dev nD) : BodyObligation (dats (F := F) m sw 0 c) (defs₀ (F := F)) 𝒱₀ () Set.univ := fun t => by
  rw [fin_N0 t, bigSep_W0, bigSep_W0]
  simp only [owns_holds]
  exact body_meets m sw h c

end Cert.Rows

end
-- ==== Proof.Run.lean ====
/-
  The launch: the eight devices' bodies (`Body.lean`) run together. The three semaphores of every device, all at zero,
  become the cells of the protocol in one step over all devices; the rights to pay, made with the cells, go to the
  devices that pay; the credit of what a device owes at launch goes to the device it owes it to. Then the run of `main`:
  it ends, its inputs unchanged and its semaphores at zero, with device `c`'s result `resultOf m sw c`.
-/
module

public import proofs.«01_k».proof.Proof.Body
public import Idealize.ShloMosaic.Lib.Pipeline.CollectiveSegs
public import Idealize.ShloMosaic.Lib.Quiescent

@[expose] public section

noncomputable section

namespace Cert.Rows

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UAll ℕ

variable (m : (ℓ : Loc nD τ sig) → Buf (Elt F) ℓ)

/-! ## The cells, device by device -/

/-- The kernel's own semaphores, and that they are none of the pipeline's. -/
abbrev dmaAt : Fin 2 → SemLoc sig := fun | 0 => .dma sentS | 1 => .dma gotS
theorem dmaFacts : Pipeline.OwnSemFacts cfg0.spec dmaAt := by decide

theorem cellAt_injective : Function.Injective (cellAt : Dev nD × Fin 3 → GSem nD τ sig) := by
  rintro ⟨c, k⟩ ⟨c', k'⟩ h
  obtain rfl : c = c' := congrArg (fun g : GSem nD τ sig => g.1.1) h
  have hs : semAt k = semAt k' := congrArg Prod.snd h
  have hk : ∀ k k' : Fin 3, semAt k = semAt k' → k = k' := by decide
  rw [hk k k' hs]

/-- One right to pay per cell. -/
def allToks : Finset (GSem nD τ sig × ℕ × Unit) := allCells.image fun g => (g, 0, ())

omit [FloatOps F] in
/-- What holds of every cell holds of each device's three. -/
theorem over_cells (Φ : GSem nD τ sig → sProp 𝕄) :
    bigSep allCells Φ = bigSep Finset.univ fun c : Dev nD => iprop(Φ (ready c) ∗ Φ (sent c) ∗ Φ (got c)) := by
  unfold allCells
  rw [bigSep_image_of_injOn cellAt_injective.injOn, bigSep_univ_prod]
  exact bigSep_congr fun c _ => bigSep_univ_eq_bigSepL [(0 : Fin 3), 1, 2] (by decide) (by decide) _
omit [FloatOps F] in
/-- The rights to pay, likewise. -/
theorem over_toks : bigSep allToks (fun t => (dutyTok ERows t.1 t.2.1 t.2.2 : sProp 𝕄))
    = bigSep Finset.univ fun c : Dev nD => iprop(dutyTok ERows (ready c) 0 () ∗ dutyTok ERows (sent c) 0 () ∗ dutyTok ERows (got c) 0 ()) := by
  unfold allToks
  rw [bigSep_image_of_injOn (fun a _ b _ h => congrArg Prod.fst h)]
  exact over_cells fun g => dutyTok ERows g 0 ()

omit [FloatOps F] in
theorem dmaSems_eq (c : Dev nD) : (Pipeline.ownSems0 (Ix := Unit) (Name := ℕ) (U := UAll) (Lvl := ℕ) (Val := Elt F) (τ := τ) dmaAt c : sProp 𝕄)
    = iprop(semVal (sent c) 0 ∗ semVal (got c) 0) := by
  rw [Pipeline.ownSems0_eq_of_list c dmaAt [0, 1] (by decide) (by decide)]; rfl
omit [FloatOps F] in
theorem barrier_eq (c : Dev nD) : (unscopedSems0 c : sProp 𝕄) = semVal (ready c) 0 := by
  unfold unscopedSems0; rw [bigSep_eq_bigSepL_of_eq [SemLoc.reg readyS] (by decide) (by decide)]; rfl

/-! ## The launch's ghost state -/

/-- The ghost state at launch: the pipeline's, and the protocol's over all cells, every right to pay in it. -/
def launchU : UAll :=
  (initOf (Pipeline.cells cfgs cellOf_inj) (Pipeline.launchToks cfgs cellOf_inj), launchOf allCells ∅ allToks)

/-- The protocol's part of it: one resource, kept by device 0 until the cells are made. -/
def seed (c : Dev nD) : sProp 𝕄 := if c = 0 then BI.own (ERows (launchOf allCells ∅ allToks)) else iprop(emp)

omit [FloatOps F] in
theorem seed_zero : (seed (0 : Dev nD) : sProp 𝕄) = BI.own (ERows (launchOf allCells ∅ allToks)) := if_pos rfl
omit [FloatOps F] in
theorem seed_other (c : Dev nD) (h : c ≠ 0) : (seed c : sProp 𝕄) = iprop(emp) := if_neg h
omit [FloatOps F] in
/-- Keeping it on device 0 leaves the others with nothing, -/
theorem seed_in : (BI.own (ERows (launchOf allCells ∅ allToks)) : sProp 𝕄) ⊢ bigSep Finset.univ (seed (F := F)) := by
  have hr : (iprop(emp) : sProp 𝕄) ⊢ bigSep (Finset.univ.erase (0 : Dev nD)) (seed (F := F)) :=
    (BI.bigSep_of_persistent (Finset.univ.erase (0 : Dev nD)) (iprop(emp) : sProp 𝕄)).trans
      (bigSep_mono fun c hc => Entails.of_eq (seed_other c (Finset.ne_of_mem_erase hc)).symm)
  rw [bigSep_univ_at _ (0 : Dev nD), seed_zero]
  iintro H
  isplitl; · iexact H
  iapply hr; iempintro
omit [FloatOps F] in
/-- and it can be taken from there. -/
theorem seed_out : bigSep Finset.univ (seed (F := F)) ⊢ (BI.own (ERows (launchOf allCells ∅ allToks)) : sProp 𝕄) := by
  rw [← seed_zero]; exact bigSep_elim (Finset.mem_univ _)

/-- What a device has after the cells are made. -/
def dealt (sw : Bool) (c : Dev nD) : sProp 𝕄 := iprop(∃ κ, records m sw κ ∗ mine c)

omit [FloatOps F] in
/-- The rights to pay the `ready` and `got` cells go to the peers of the devices whose cells they are. -/
theorem deal : iprop((bigSep Finset.univ fun c : Dev nD => iprop(atPos ERows (ready c) 0 ∅ 0 ∗ atPos ERows (sent c) 0 ∅ 0 ∗ atPos ERows (got c) 0 ∅ 0))
      ∗ bigSep Finset.univ fun c : Dev nD => iprop(dutyTok ERows (ready c) 0 () ∗ dutyTok ERows (sent c) 0 () ∗ dutyTok ERows (got c) 0 ()))
    ⊢ (bigSep Finset.univ fun c : Dev nD => mine c : sProp 𝕄) := by
  unfold mine
  rw [bigSep_sep' _ (fun c : Dev nD => iprop(atPos ERows (ready c) 0 ∅ 0 ∗ atPos ERows (sent c) 0 ∅ 0 ∗ atPos ERows (got c) 0 ∅ 0))
      (fun c : Dev nD => iprop(dutyTok ERows (ready (peer c)) 0 () ∗ dutyTok ERows (sent c) 0 () ∗ dutyTok ERows (got (peer c)) 0 ()))]
  refine sep_mono_right ?_
  rw [bigSep_sep', bigSep_sep', bigSep_sep', bigSep_sep',
    bigSep_univ_equiv peerEquiv (fun c : Dev nD => (dutyTok ERows (ready c) 0 () : sProp 𝕄)),
    bigSep_univ_equiv peerEquiv (fun c : Dev nD => (dutyTok ERows (got c) 0 () : sProp 𝕄))]
  exact Entails.of_eq rfl

omit [FloatOps F] in
/-- Records, which any number of devices can have, given to each of them. -/
theorem hand_out (sw : Bool) (κ : GSem nD τ sig → ℕ) :
    iprop(records m sw κ ∗ bigSep Finset.univ fun c : Dev nD => mine c) ⊢ bigSep Finset.univ (dealt m sw) := by
  refine (sep_mono_left (BI.bigSep_of_persistent (Finset.univ : Finset (Dev nD)) (records m sw κ))).trans ?_
  rw [← bigSep_sep']
  refine bigSep_mono fun c _ => ?_
  show iprop(records m sw κ ∗ mine c) ⊢ dealt m sw c
  unfold dealt
  iintro H
  iexists κ
  iexact H

omit [FloatOps F] in
/-- The cells made, for all devices at once. -/
theorem make_cells (sw : Bool) :
    (bigSep Finset.univ fun c : Dev nD => iprop(Pipeline.ownSems0 (Ix := Unit) (Name := ℕ) (U := UAll) (Lvl := ℕ) (Val := Elt F) (τ := τ) dmaAt c ∗ unscopedSems0 c ∗ seed c) : sProp 𝕄)
      ⊢ |={Set.univ}=> bigSep Finset.univ (dealt m sw) := by
  have hz : (bigSep Finset.univ fun c : Dev nD => iprop(Pipeline.ownSems0 (Ix := Unit) (Name := ℕ) (U := UAll) (Lvl := ℕ) (Val := Elt F) (τ := τ) dmaAt c ∗ unscopedSems0 c ∗ seed c) : sProp 𝕄)
      ⊢ iprop(bigSep allCells (fun g => semVal g 0) ∗ BI.own (ERows (launchOf allCells ∅ allToks))) := by
    refine Idealize.SL.BI.BIBase.Entails.trans ?_ (sep_mono_right (seed_out (F := F)))
    rw [over_cells, ← bigSep_sep']
    refine bigSep_mono fun c _ => ?_
    rw [dmaSems_eq, barrier_eq]
    show iprop((semVal (sent c) 0 ∗ semVal (got c) 0) ∗ semVal (ready c) 0 ∗ seed c)
      ⊢ iprop((semVal (ready c) 0 ∗ semVal (sent c) 0 ∗ semVal (got c) 0) ∗ seed c)
    iintro ⟨⟨Hs, Hg⟩, Hr, HG⟩
    isplitl [Hs Hg Hr]
    · isplitl [Hr]; · iexact Hr
      isplitl [Hs] <;> iassumption
    iexact HG
  refine hz.trans ?_
  iintro H
  imod (Rounds.fund_launch ERows (sched sw (xOf m)) (Finset.disjoint_empty_right allCells) (fun g hg => absurd hg (Finset.notMem_empty g)) allToks) $$ H
    with ⟨%κ, -, Hc, Hr, Hp, -, Ht⟩
  imodintro
  rw [Finset.union_empty]
  ihave Hp' := (Entails.of_eq (over_cells (F := F) fun g => atPos ERows g 0 ∅ 0)) $$ Hp
  ihave Ht' := (Entails.of_eq (over_toks (F := F))) $$ Ht
  iapply (hand_out m sw κ)
  isplitl [Hc Hr]
  · unfold records; isplitl [Hc] <;> iassumption
  iapply (deal (F := F))
  isplitl [Hp'] <;> iassumption

/-! ## The credit at launch -/

theorem ready_iff {a b : Dev nD} : Iff (ready a = ready b) (a = b) :=
  ⟨fun h => congrArg (fun g : GSem nD τ sig => g.1.1) h, fun h => h ▸ rfl⟩
theorem got_iff {a b : Dev nD} : Iff (got a = got b) (a = b) :=
  ⟨fun h => congrArg (fun g : GSem nD τ sig => g.1.1) h, fun h => h ▸ rfl⟩

/-- Of all devices only its peer owes `ready c`, one unit; -/
theorem owed_ready (d c : Dev nD) : owes₀ true d (ready c) () = if d = peer c then 1 else 0 := by
  show (owesCopy d + tallyAt (ready (peer d)) () 1) (ready c) () = _
  unfold owesCopy
  rw [Pi.add_apply, Finsupp.add_apply, tallyAt_ne_cell (fun h => got_ne_ready (congrArg Prod.snd h).symm), tallyAt_apply, Finsupp.zero_apply, Nat.zero_add]
  by_cases h : d = peer c
  · rw [if_pos h, if_pos ⟨by rw [h, peer_peer], rfl⟩]
  · rw [if_neg h, if_neg fun e => h (by rw [ready_iff.mp e.1, peer_peer])]
/-- and only its peer owes `got c`, a copy's credit. -/
theorem owed_got (d c : Dev nD) : owes₀ true d (got c) () = if d = peer c then credit else 0 := by
  show (owesCopy d + tallyAt (ready (peer d)) () 1) (got c) () = _
  unfold owesCopy
  rw [Pi.add_apply, Finsupp.add_apply, tallyAt_apply, tallyAt_ne_cell (fun h => got_ne_ready (congrArg Prod.snd h)), Finsupp.zero_apply, Nat.add_zero]
  by_cases h : d = peer c
  · rw [if_pos h, if_pos ⟨by rw [h, peer_peer], rfl⟩]
  · rw [if_neg h, if_neg fun e => h (by rw [got_iff.mp e.1, peer_peer])]

/-- A cell that only the peer owes, by `n`, starts with credit `n`. -/
theorem credit_from (c : Dev nD) (g : GSem nD τ sig) (n : ℕ) (h : ∀ d, owes₀ true d g () = if d = peer c then n else 0) :
    tallyOn g (launchCredit (Pipeline.owing (owes₀ true)) 0 g) = (tallyAt g () n : CellTallies nD τ sig Unit) := by
  unfold tallyAt
  refine congrArg _ (Finsupp.ext fun u => ?_)
  rw [Pipeline.launchCredit_owing, Finsupp.single_eq_same, Finset.sum_congr rfl fun d _ => h d,
    Finset.sum_ite_eq' Finset.univ (peer c) fun _ => n, if_pos (Finset.mem_univ _)]

omit [FloatOps F] in
/-- The launch gives each device the credit its waits need. -/
theorem launch_credits (sw : Bool) (c : Dev nD) : (Pipeline.launchCred (owes₀ sw) c : sProp 𝕄) ⊢ credits c sw := by
  cases sw with
  | false => unfold credits; iintro -; iempintro
  | true =>
    have hg : SemLoc.dma gotS ∈ Finset.univ.erase (SemLoc.reg readyS : SemLoc sig) := Finset.mem_erase.mpr ⟨got_ne_ready, Finset.mem_univ _⟩
    unfold credits Pipeline.launchCred
    rw [bigSep_univ_at _ (SemLoc.reg readyS), credit_from c (ready c) 1 fun d => owed_ready d c]
    refine sep_mono_right ?_
    rw [← credit_from c (got c) credit fun d => owed_got d c]
    exact bigSep_elim hg

/-! ## The run -/

theorem share_full (sw : Bool) (c : Dev nD) (w : Fin cfg0.W) : (dats m sw 0 c).share w = fullShare := by unfold Dat.share; split <;> rfl

omit [FloatOps F] in
theorem enter (sw : Bool) (ρ : Dev nD → PrngReg) (c : Dev nD) :
    iprop(Pipeline.unscopedRestP Pipeline.Prefetch.none cfg0.spec c (fun b => m ((c : Thread nD τ).loc b)) ∗ levAts levels level
        ∗ Pipeline.launchCred (owes₀ sw) c ∗ prngReg c (ρ c) ∗ dealt m sw c)
      ⊢ |={Set.univ}=> iprop(part m sw c ∗ emp) := by
  iintro ⟨-, Hl, Hc, -, Hd⟩
  ihave Hc' := (launch_credits (F := F) sw c) $$ Hc
  imodintro
  unfold part dealt
  isplitl
  · isplitl [Hd]; · iexact Hd
    isplitl [Hc'] <;> iassumption
  iempintro

theorem at_start (sw : Bool) (c : Dev nD) :
    iprop(part m sw c ∗ Pipeline.prefHeld Pipeline.Prefetch.none c (fun _ => fullShare.right) (fun k => k.elim0) ∗ Pipeline.scopedRest cfg0.spec c)
      ⊢ (dats m sw 0 c).Φ 0 := by
  rw [show (dats m sw 0 c).Φ 0 = before m sw c from rfl, scopedRest0_eq]
  unfold before
  iintro ⟨Hp, -, ⟨%f, Hb⟩⟩
  isplitl [Hp]; · iexact Hp
  iexists f; rw [bufHas_eq]; iexact Hb

theorem at_end (sw : Bool) (c : Dev nD) :
    (dats m sw 0 c).Φ (Fin.last cfg0.N) ⊢ iprop(unscopedSems0 c ∗ Pipeline.ownSems0 dmaAt c ∗ Pipeline.scopedRest cfg0.spec c) := by
  rw [show (dats m sw 0 c).Φ (Fin.last cfg0.N) = afterwards c from rfl, scopedRest0_eq, dmaSems_eq, barrier_eq]
  unfold afterwards
  iintro ⟨⟨%f, Hb⟩, Hs, Hg, Hr⟩
  isplitl [Hr]; · iexact Hr
  isplitl [Hs Hg]
  · isplitl [Hs] <;> iassumption
  iexists f; rw [← bufHas_eq]; iexact Hb

theorem staging_waits (sw : Bool) (c : Dev nD) : (levAts levels level : sProp 𝕄) ⊢ Pipeline.cellsWaits cfgs (dats m sw) () 0 c :=
  Pipeline.cellsWaits_intro cfgs (dats m sw) () 0 c fun w s t =>
    wait_staging sw c _ (by fin_cases w <;> fin_cases s <;> decide) _ (by
      rcases t with ⟨_ | _, ht⟩
      · exact Or.inl rfl
      · exact Or.inr rfl)

/-- What window `w`'s array ends as on device `c`. -/
def finalOf (sw : Bool) (c : Dev nD) (w : Fin cfg0.W) : Buf (Elt F) ((cfg0.win w).arr.view.loc (c : Thread nD τ)) := (dats m sw 0 c).arrAt w cfg0.N

set_option maxRecDepth 8000 in
/-- Under either table every execution of `main` on the eight devices ends, the windows' arrays at `finalOf` and every
    semaphore at zero. -/
theorem run_windows (sw : Bool) (h : TableIs m sw) (ρ : Dev nD → PrngReg) :
    θ_run defs (onTc (τ := τ) (main (F := F))) ⟨m, fun _ => 0, ρ⟩ (fun r =>
      (∀ c : Dev nD, ∀ w : Fin cfg0.W, r.2.mem ((cfg0.win w).arr.view.loc (c : Thread nD τ)) = finalOf m sw c w) ∧ r.2.sem = fun _ => 0) :=
  Pipeline.θ_run_region_owing_glob_pf (fun p => (cfgs p).toPCfg) (fun p => (cfgs p).toPCfg_adm) (dats m sw) () cellOf_inj (0 : Fin 1)
    winFacts0.to₀ dmaFacts (Pipeline.PreFacts.none _) EPipe defs₀ 𝒱₀ m ρ main
    (hmain := fun _ => rfl)
    (hbody := body_obligation m sw h) (hne := fun w => by fin_cases w <;> exact Nat.succ_pos _)
    (harr := arr_whole0) (hstage := stage_whole0) (hshare := share_full m sw) (hdistinct := winFacts0.arr_inj)
    (O₀ := owes₀ sw) (howed₀ := fun _ => rfl) (howedN := fun _ => rfl)
    (L := levels) (lv := level) (hL := levels_of_ne) (hwaits := staging_waits m sw)
    (G := seed) (G' := dealt m sw) (u₀ := launchU)
    (hu₀ := by
      unfold launchU
      iintro Hu
      ihave H := (ownU_pair _ _) $$ Hu
      icases H with ⟨HP, HX⟩
      imodintro
      isplitl [HP]; · iexact HP
      iapply (seed_in (F := F)); iexact HX)
    (hglob := make_cells m sw)
    (hA := fun _ _ => rfl) (hpf := fun _ k => k.elim0)
    (X := part m sw) (Y := fun c => unscopedSems0 c) (Z := fun _ => iprop(emp))
    (hX := enter m sw ρ) (hin := at_start m sw) (hout := at_end m sw)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays at the end -/

/-- `x` is as it was, -/
theorem final_x (sw : Bool) (c : Dev nD) : finalOf m sw c (0 : Fin 3) = m ((c : Thread nD τ).loc main_arg0) :=
  (dats m sw 0 c).arrAt_in (0 : Fin 3) rfl _
/-- so is `pi`, -/
theorem final_pi (sw : Bool) (c : Dev nD) : finalOf m sw c (1 : Fin 3) = m ((c : Thread nD τ).loc main_arg1) :=
  (dats m sw 0 c).arrAt_in (1 : Fin 3) rfl _
/-- and the result is the device's own block of `x` or its peer's. -/
theorem final_result (sw : Bool) (c : Dev nD) : finalOf m sw c (2 : Fin 3) = resultOf m sw c := by
  have hz : (fun a => (win0_2.index (0 : Fin 1)) a * main_v1.ty.shape.size a) = fun _ => 0 :=
    funext fun a => by fin_cases a <;> decide
  have hw : ∀ f, (win0_2.blk (0 : Fin 1)).view.read (Elt F) f = f := fun f =>
    Memref.read_access_unit_zero (Elt F) main_v1 hz (fun a => by fin_cases a <;> decide) f
  have hr : (win0_2.blk (0 : Fin 1)).view.read (Elt F) (finalOf m sw c (2 : Fin 3)) = resultOf m sw c := by
    unfold finalOf
    rw [show cfg0.N = ((0 : Fin 1) : Fin cfg0.N).val + 1 from rfl, (dats m sw 0 c).arrAt_succ (2 : Fin 3) (0 : Fin 1)]
    rw [show (cfg0.win (2 : Fin 3)).flush (0 : Fin 1) = true from by decide, if_pos rfl]
    exact View.read_write_univ _ _
  exact (hw _).symm.trans hr

/-- The run of `main` under either table, over any float values: it ends; device `c`'s result is its own block of `x`
    (keeping table) or its peer's (swapping table); the arguments are unchanged; the semaphores are at zero. -/
theorem run_main (sw : Bool) (h : TableIs m sw) (ρ : Dev nD → PrngReg) :
    θ_run defs (onTc (τ := τ) (main (F := F))) ⟨m, fun _ => 0, ρ⟩ (fun r =>
      (∀ c : Dev nD, r.2.mem ((c : Thread nD τ).loc main_v1) = resultOf m sw c
        ∧ r.2.mem ((c : Thread nD τ).loc main_arg0) = m ((c : Thread nD τ).loc main_arg0)
        ∧ r.2.mem ((c : Thread nD τ).loc main_arg1) = m ((c : Thread nD τ).loc main_arg1))
      ∧ r.2.sem = fun _ => 0) :=
  (θ_run defs _ _).mono (fun _ hr => ⟨fun c => ⟨(hr.1 c (2 : Fin 3)).trans (final_result m sw c),
    (hr.1 c (0 : Fin 3)).trans (final_x m sw c), (hr.1 c (1 : Fin 3)).trans (final_pi m sw c)⟩, hr.2⟩) (run_windows m sw h ρ)

end Cert.Rows

end
-- ==== Proof.Value.lean ====
/-
  What the two programs compute of a table that exchanges the two rows, or keeps them. The preconditions say which table
  every device holds; the reference's `argsort` of that table is the table itself, so its gather reads the other row, or
  the same one; and a device's block of that is its peer's block of `x`, or its own.
-/
module

public import proofs.«01_k».proof.Proof.Body
public import proofs.«01_k».proof.Proof.Gen.ReferenceIdeal.Run
public import proofs.«01_k».proof.Proof.Gen.Pre_swaps_Kernel
public import proofs.«01_k».proof.Proof.Gen.Pre_stays_Kernel
public import Idealize.ShloMosaic.Lib.Layout
public import Idealize.ShloMosaic.PureOps.Ideal

@[expose] public section

noncomputable section

namespace Cert.Rows

open Idealize.ShloMosaic Idealize.ShloMosaic.TcCoe

variable {F : FTy → Type} [FloatOps F] {α : Type}

/-! ## The table -/

/-- Where row `r` is taken from: the other row (`sw = true`) or the same (`sw = false`). -/
def source (sw : Bool) (r : Nat) : Nat := if sw then 1 - r else r

/-- The table: entry `r` is `source sw r`. -/
def table (sw : Bool) : Cert.KernelIdeal.S2.Idx → BitVec 32 := fun i => BitVec.ofNat 32 (source sw (i 0).val)

/-- A comparison for equality that holds everywhere is of equal tables. -/
theorem eq_of_cmpi {p q : Cert.KernelIdeal.S2.Idx → BitVec 32} (h : cmpi .eq p q = fun _ => 1#1) : p = q := by
  funext i
  have e : IntOp.cmpi .eq (p i) (q i) = 1#1 := congrFun h i
  by_contra hne
  have hb : (p i == q i) = false := beq_eq_false_iff_ne.2 hne
  have : BitVec.ofBool (p i == q i) = 1#1 := e
  rw [hb] at this
  exact absurd this (by decide)

/-- `swaps` holds of the swapping table only; -/
theorem table_of_swaps (x : Block F) (p : Cert.KernelIdeal.S2.Idx → BitVec 32)
    (h : Cert.Pre_swaps_Kernel.fn x p = fun _ => 1#1) : p = table true :=
  (eq_of_cmpi h).trans (by decide)
/-- `stays` of the keeping table only. -/
theorem table_of_stays (x : Block F) (p : Cert.KernelIdeal.S2.Idx → BitVec 32)
    (h : Cert.Pre_stays_Kernel.fn x p = fun _ => 1#1) : p = table false :=
  (eq_of_cmpi h).trans (by decide)

/-- The word a device reads of the table is the row it sends its own to. -/
theorem table_own (sw : Bool) (c : Dev Cert.KernelIdeal.nD) : table sw (own c) = want sw c := by
  cases sw <;> rfl

/-- Where every device holds the table, the run has what it needs of the launch memory. -/
theorem tableIs (m : (ℓ : Loc Cert.KernelIdeal.nD Cert.KernelIdeal.τ Cert.KernelIdeal.sig) → Buf (Elt F) ℓ) (sw : Bool)
    (h : ∀ c, piOf m c = table sw) : TableIs m sw := fun c => (congrFun (h c) (own c)).trans (table_own sw c)

/-! ## The reference's value -/

section Reference

open Cert.ReferenceIdeal Cert.ReferenceIdeal.Gen

/-- The reference's start indices: `argsort` of the table, its negative entries (there are none) counted from the end. -/
def starts (p : S2.Idx → BitVec 32) : S2x1.Idx → BitVec 32 :=
  let order := (Host.sort2 S2 0 comparator_i32_i32_d0 p (iotaInDim S2 32 0)).2
  broadcastInDim S2x1 ![0] bcast_S2_S2x1_0
    (select (cmpi .slt order (broadcastInDim S2 ![] bcast_S_S2 (constantI S_ 32 0#32)))
      (addi order (broadcastInDim S2 ![] bcast_S_S2 (constantI S_ 32 2#32))) order)

/-- Of a permutation of two rows they are the permutation again. -/
theorem starts_table (sw : Bool) : ∀ k, starts (table sw) k = BitVec.ofNat 32 (source sw (k 0).val) := by
  cases sw <;> decide

/-- The element at `j` comes from row `source sw (j 0)`, at the same place in the row. -/
def sourceAt (sw : Bool) (j : S2x256x256.Idx) : S2x256x256.Idx := fun a => match a with
  | ⟨0, _⟩ => ⟨source sw (j 0).val, by have h : (j 0).val < 2 := (j 0).isLt; cases sw <;> simp only [source] <;> (show _ < 2) <;> simp <;> omega⟩
  | ⟨1, _⟩ => j 1
  | ⟨2, _⟩ => j 2

/-- How the reference gathers: whole rows, by the entries of a column of row numbers. -/
abbrev rows : GatherDims S2x256x256 S2x1 S2x256x256 := gather_S2x256x256_S2x1_S2x256x256_12_0_n_n_0_1_1256256

/-- The reference's gather reads there. -/
theorem gather_rows (sw : Bool) (x : S2x256x256.Idx → α) (j : S2x256x256.Idx) :
    Host.gather rows x (starts (table sw)) j = x (sourceAt sw j) := by
  have hj : (j 0).val < 2 := (j 0).isLt
  refine congrArg x (funext fun a => Fin.ext ?_)
  show GatherDims.start rows j _ a + GatherDims.batchCoord rows j a + GatherDims.offCoord rows j a = _
  rw [GatherDims.batchCoord_eq_zero _ _ _ List.not_mem_nil, Nat.add_zero]
  fin_cases a
  · rw [GatherDims.offCoord_eq_zero _ _ _ (by decide), Nat.add_zero]
    unfold GatherDims.start
    rw [dif_pos (by decide), starts_table]
    show min (BitVec.ofNat 32 (source sw (j 0).val)).toInt.toNat 1 = source sw (j 0).val
    generalize (j 0).val = r at hj ⊢
    obtain rfl | rfl : r = 0 ∨ r = 1 := by omega
    all_goals cases sw <;> rfl
  · show GatherDims.start rows j _ 1 + GatherDims.offCoord rows j 1 = (j 1).val
    unfold GatherDims.start GatherDims.offCoord
    rw [dif_neg (by decide), dif_pos (by decide), Nat.zero_add]
    rfl
  · show GatherDims.start rows j _ 2 + GatherDims.offCoord rows j 2 = (j 2).val
    unfold GatherDims.start GatherDims.offCoord
    rw [dif_neg (by decide), dif_pos (by decide), Nat.zero_add]
    rfl

/-- The reference's result of `x` and the table `p`, at the reals: the gather, through a change of format and back. -/
def refValue (x : S2x256x256.Idx → Elt Ideal .bf16) (p : S2.Idx → BitVec 32) : FVec Ideal S2x256x256 .bf16 :=
  truncf .bf16 (extf .f32 (Host.gather rows x (starts p)) bitsLt_bf16_f32) bitsLt_bf16_f32

theorem refValue_table (sw : Bool) (x : S2x256x256.Idx → Elt Ideal .bf16) : refValue x (table sw) = fun j => x (sourceAt sw j) :=
  funext fun j => gather_rows sw x j

end Reference

/-! ## A device's block -/

/-- Device `c`'s block of an array of two rows: row `c / 4`. -/
abbrev rowOf (c : Dev Cert.KernelIdeal.nD) (v : (⟨3, ![2, 256, 256]⟩ : Shape).Idx → α) : (⟨3, ![1, 256, 256]⟩ : Shape).Idx → α :=
  Layout.blockN ⟨3, ![1, 256, 256]⟩ ⟨3, ![2, 256, 256]⟩ (Layout.meshBlock [2, 2, 2] ![[0], [], []] c) v

/-- The device whose block of `x` ends as the result on device `c`. -/
def giver (sw : Bool) (c : Dev Cert.KernelIdeal.nD) : Dev Cert.KernelIdeal.nD := if sw then peer c else c

/-- The row of the giver is the row the reference takes. -/
theorem giver_row (sw : Bool) : ∀ c : Dev Cert.KernelIdeal.nD,
    (Layout.meshBlock (n := 8) [2, 2, 2] ![[0], [], []] (giver sw c) (by decide) 0).val
      = source sw (Layout.meshBlock (n := 8) [2, 2, 2] ![[0], [], []] c (by decide) 0).val := by
  cases sw <;> decide

/-- Device `c`'s block of the reference's result is the giver's block of `x`. -/
theorem block_from (sw : Bool) (c : Dev Cert.KernelIdeal.nD) (x : (⟨3, ![2, 256, 256]⟩ : Shape).Idx → α) :
    rowOf c (fun j => x (sourceAt sw j)) = rowOf (giver sw c) x := by
  funext i
  have h := giver_row sw c
  have hi : (i 0).val = 0 := Nat.lt_one_iff.1 (i 0).isLt
  refine congrArg x (funext fun a => Fin.ext ?_)
  fin_cases a
  · show source sw ((Layout.meshBlock (n := 8) [2, 2, 2] ![[0], [], []] c (by decide) 0).val * 1 + (i 0).val)
      = (Layout.meshBlock (n := 8) [2, 2, 2] ![[0], [], []] (giver sw c) (by decide) 0).val * 1 + (i 0).val
    rw [h, hi, Nat.mul_one, Nat.mul_one]; rfl
  · rfl
  · rfl

/-- So it is what device `c` of the kernel ends with, where each device holds its block of `x`. -/
theorem result_eq (m : (ℓ : Loc Cert.KernelIdeal.nD Cert.KernelIdeal.τ Cert.KernelIdeal.sig) → Buf (Elt Ideal) ℓ) (sw : Bool)
    (x : (⟨3, ![2, 256, 256]⟩ : Shape).Idx → Elt Ideal .bf16) (h : ∀ c, xOf m c = rowOf c x) (c : Dev Cert.KernelIdeal.nD) :
    resultOf m sw c = rowOf c (refValue x (table sw)) := by
  rw [refValue_table, block_from]
  cases sw
  · exact h c
  · exact h (peer c)

end Cert.Rows

end
-- ==== Proof.lean ====
/-
  The claims, each from the run of the kernel (`Proof/Run.lean`) or of the reference (`Proof/Gen/ReferenceIdeal/Run.lean`).
  The kernel's run is proved once, over any reading of the floats and for either table: at the machine's bits it is the
  frames of `Kernel`, at the reals those of `KernelIdeal`, and with `Proof/Value.lean` the two value claims.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_swaps_Kernel
public import proofs.«01_k».proof.Proof.Gen.Pre_stays_Kernel
public import proofs.«01_k».proof.Proof.Gen.Pre_swaps_ReferenceIdeal
public import proofs.«01_k».proof.Proof.Gen.Pre_stays_ReferenceIdeal
public import proofs.«01_k».proof.Proof.Run
public import proofs.«01_k».proof.Proof.Value
public import Idealize.ShloMosaic.Lib.Quiescent

@[expose] public section

noncomputable section

namespace Cert.Proof

open Idealize.ShloMosaic Idealize.SL.Sem Cert.Rows

/-! ## The kernel's frames -/

/-- With the table `table sw` on every device the kernel runs to its end, its arguments unchanged and its semaphores at
    zero, whatever the floats are read as. -/
theorem frame {F : FTy → Type} [FloatOps F] (sw : Bool)
    (m : (ℓ : Loc Cert.KernelIdeal.nD Cert.KernelIdeal.τ Cert.KernelIdeal.sig) → Buf (Elt F) ℓ) (ρ : Dev Cert.KernelIdeal.nD → PrngReg)
    (h : ∀ c, piOf m c = table sw) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (run_main m sw (tableIs m sw h) ρ)

section SameText

variable {F : FTy → Type} [FloatOps F]

/-- `Kernel` and `KernelIdeal` are the same text: their bodies are equal, -/
theorem body_same : Cert.Kernel.cc0_body (F := F) = Cert.KernelIdeal.cc0_body (F := F) := by
  unfold Cert.Kernel.cc0_body Cert.KernelIdeal.cc0_body
  rfl
/-- so are the tables of their one body, -/
theorem defs₀_same : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) =>
    show Cert.Kernel.cc0_body _ _ _ _ _ _ _ _ _ _ = _
    rw [body_same]
/-- and those with the launch. -/
theorem defs_same : Cert.Kernel.defs (F := F) = Cert.KernelIdeal.defs (F := F) := by
  unfold Cert.Kernel.defs Cert.KernelIdeal.defs
  rw [defs₀_same]
  rfl

end SameText

/-- `Kernel` under the swapping table: it is `KernelIdeal`'s text read at the machine's bits; -/
theorem frame_kernel_swaps : Cert.quiescent_Kernel := by
  intro m ρ hp
  rw [defs_same]
  exact frame (F := Bits) true m ρ fun c =>
    table_of_swaps (F := Bits) (m (c.tc.loc Cert.Kernel.main_arg0)) (m (c.tc.loc Cert.Kernel.main_arg1)) (hp c)

/-- and under the keeping table. -/
theorem frame_kernel_stays : Cert.quiescent_Kernel_pre_stays_Kernel := by
  intro m ρ hp
  rw [defs_same]
  exact frame (F := Bits) false m ρ fun c =>
    table_of_stays (F := Bits) (m (c.tc.loc Cert.Kernel.main_arg0)) (m (c.tc.loc Cert.Kernel.main_arg1)) (hp c)

/-- `KernelIdeal` under the one, -/
theorem frame_ideal_swaps : Cert.quiescent_KernelIdeal := fun m ρ hp =>
  frame true m ρ fun c => table_of_swaps _ _ (hp c)

/-- and under the other. -/
theorem frame_ideal_stays : Cert.quiescent_KernelIdeal_pre_stays_Kernel := fun m ρ hp =>
  frame false m ρ fun c => table_of_stays _ _ (hp c)

/-! ## The reference's -/

/-- The reference runs to its end whatever its arguments hold, and leaves them unchanged; it has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The values -/

/-- Where every device holds the table `table sw` and its block of the reference's `x`, both programs run to their ends,
    and each device's result is its block of the reference's. -/
theorem value_claim (sw : Bool)
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (ρ' : Dev Cert.ReferenceIdeal.nD → PrngReg)
    (htab : ∀ c, piOf m c = table sw)
    (hx : ∀ c, xOf m c = rowOf c (m' (((0 : Dev Cert.ReferenceIdeal.nD).tc : Thread Cert.ReferenceIdeal.nD Cert.ReferenceIdeal.τ).loc Cert.ReferenceIdeal.main_arg0)))
    (hpi : ∀ c, piOf m c = m' (((0 : Dev Cert.ReferenceIdeal.nD).tc : Thread Cert.ReferenceIdeal.nD Cert.ReferenceIdeal.τ).loc Cert.ReferenceIdeal.main_arg1)) :
    ∃ v : Buf (Elt Ideal) (((0 : Dev Cert.ReferenceIdeal.nD).tc : Thread Cert.ReferenceIdeal.nD Cert.ReferenceIdeal.τ).loc Cert.ReferenceIdeal.main_v9),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
          r.2.mem ((c.tc : Thread Cert.KernelIdeal.nD Cert.KernelIdeal.τ).loc Cert.KernelIdeal.main_v1) = rowOf c v
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, ρ'⟩ (fun r =>
          r.2.mem (((0 : Dev Cert.ReferenceIdeal.nD).tc : Thread Cert.ReferenceIdeal.nD Cert.ReferenceIdeal.τ).loc Cert.ReferenceIdeal.main_v9) = v
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  have hp := (hpi 0).symm.trans (htab 0)
  refine ⟨refValue (m' (((0 : Dev Cert.ReferenceIdeal.nD).tc : Thread Cert.ReferenceIdeal.nD Cert.ReferenceIdeal.τ).loc Cert.ReferenceIdeal.main_arg0)) (table sw), ?_, ?_⟩
  · exact (θ_run Cert.KernelIdeal.defs _ _).mono
      (fun _ h c => ⟨(h.1 c).1.trans (result_eq m sw _ hx c), (h.1 c).2⟩) (run_main (F := Ideal) m sw (tableIs m sw htab) ρ)
  · exact (θ_run Cert.ReferenceIdeal.defs _ _).mono
      (fun _ h => ⟨(h 0).1.trans (congrArg (refValue _) hp), (h 0).2⟩) (Cert.ReferenceIdeal.Value.run (F := Ideal) m' ρ')

/-- The value claim under the swapping table, -/
theorem value_swaps : Cert.algebraic_KernelIdeal_ReferenceIdeal := fun m ρ m' ρ' hp h =>
  value_claim true m ρ m' ρ' (fun c => table_of_swaps _ _ (hp c)) (fun c => (h c).1) (fun c => (h c).2)

/-- and under the keeping table. -/
theorem value_stays : Cert.algebraic_KernelIdeal_ReferenceIdeal_pre_stays_Kernel := fun m ρ m' ρ' hp h =>
  value_claim false m ρ m' ρ' (fun c => table_of_stays _ _ (hp c)) (fun c => (h c).1) (fun c => (h c).2)

/-- Everything the certificate claims. -/
theorem claim : Cert.Claim :=
  ⟨Cert.Kernel.Gen.facts, Cert.KernelIdeal.Gen.facts, Cert.ReferenceIdeal.Gen.facts,
    Cert.Pre_swaps_Kernel.Gen.facts, Cert.Pre_stays_Kernel.Gen.facts,
    Cert.Pre_swaps_ReferenceIdeal.Gen.facts, Cert.Pre_stays_ReferenceIdeal.Gen.facts,
    frame_kernel_swaps, frame_kernel_stays, frame_ideal_swaps, frame_ideal_stays,
    frame_reference, fun m ρ _ => frame_reference m ρ (by trivial), fun m ρ _ => frame_reference m ρ (by trivial),
    trivial, value_swaps, value_stays⟩

end Cert.Proof

end
